-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S10000x1 : Shape := ⟨2, ![10000, 1]⟩
abbrev S480x10000 : Shape := ⟨2, ![480, 10000]⟩
abbrev S480x128 : Shape := ⟨2, ![480, 128]⟩
abbrev S480x1 : Shape := ⟨2, ![480, 1]⟩
abbrev S480 : Shape := ⟨1, ![480]⟩

abbrev nBuf : Space → Nat
  | .hbm => 10
  | .vmem => 19
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S1x128, .f32⟩
  | .hbm, ⟨6, _⟩ => ⟨S10000x128, .bf16⟩
  | .hbm, ⟨7, _⟩ => ⟨S10000x10000, .i8⟩
  | .hbm, ⟨8, _⟩ => ⟨S10000x1, .f32⟩
  | .hbm, ⟨9, _⟩ => ⟨S10000x128, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S480x10000, .f32⟩
  | .local _ .vmem, ⟨4, _⟩ => ⟨S480x10000, .f32⟩
  | .local _ .vmem, ⟨5, _⟩ => ⟨S480x128, .bf16⟩
  | .local _ .vmem, ⟨6, _⟩ => ⟨S480x128, .bf16⟩
  | .local _ .vmem, ⟨7, _⟩ => ⟨S480x10000, .i8⟩
  | .local _ .vmem, ⟨8, _⟩ => ⟨S480x10000, .i8⟩
  | .local _ .vmem, ⟨9, _⟩ => ⟨S480x1, .f32⟩
  | .local _ .vmem, ⟨10, _⟩ => ⟨S480x1, .f32⟩
  | .local _ .vmem, ⟨11, _⟩ => ⟨S10000x128, .bf16⟩
  | .local _ .vmem, ⟨12, _⟩ => ⟨S480x10000, .i8⟩
  | .local _ .vmem, ⟨13, _⟩ => ⟨S480x10000, .i8⟩
  | .local _ .vmem, ⟨14, _⟩ => ⟨S480x1, .f32⟩
  | .local _ .vmem, ⟨15, _⟩ => ⟨S480x1, .f32⟩
  | .local _ .vmem, ⟨16, _⟩ => ⟨S10000x128, .bf16⟩
  | .local _ .vmem, ⟨17, _⟩ => ⟨S480x128, .f32⟩
  | .local _ .vmem, ⟨18, _⟩ => ⟨S480x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v3 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem3_1 : DmaSem sig := 17

abbrev nD : Nat := 1
abbrev τ : Topo := Topo.v7x

variable {F : FTy → Type} [FloatOps F]

abbrev grid0 : Pipeline.Grid := ⟨1, ![21], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S480x10000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S480x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S480x10000 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S480x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![21], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S480x10000 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S480x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S480x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 29
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S10000x128, .f32⟩
  | .hbm, ⟨6, _⟩ => ⟨S1x128, .f32⟩
  | .hbm, ⟨7, _⟩ => ⟨S10000x128, .f32⟩
  | .hbm, ⟨8, _⟩ => ⟨S10000x128, .f32⟩
  | .hbm, ⟨9, _⟩ => ⟨S_, .f32⟩
  | .hbm, ⟨10, _⟩ => ⟨S10000x128, .f32⟩
  | .hbm, ⟨11, _⟩ => ⟨S10000x128, .f32⟩
  | .hbm, ⟨12, _⟩ => ⟨S10000x128, .f32⟩
  | .hbm, ⟨13, _⟩ => ⟨S10000x10000, .f32⟩
  | .hbm, ⟨14, _⟩ => ⟨S_, .f32⟩
  | .hbm, ⟨15, _⟩ => ⟨S10000, .f32⟩
  | .hbm, ⟨16, _⟩ => ⟨S10000x1, .f32⟩
  | .hbm, ⟨17, _⟩ => ⟨S_, .f32⟩
  | .hbm, ⟨18, _⟩ => ⟨S10000x1, .f32⟩
  | .hbm, ⟨19, _⟩ => ⟨S10000x1, .f32⟩
  | .hbm, ⟨20, _⟩ => ⟨S_, .f32⟩
  | .hbm, ⟨21, _⟩ => ⟨S10000x1, .f32⟩
  | .hbm, ⟨22, _⟩ => ⟨S10000x1, .f32⟩
  | .hbm, ⟨23, _⟩ => ⟨S10000x10000, .f32⟩
  | .hbm, ⟨24, _⟩ => ⟨S10000x10000, .f32⟩
  | .hbm, ⟨25, _⟩ => ⟨S10000x10000, .f32⟩
  | .hbm, ⟨26, _⟩ => ⟨S10000x128, .f32⟩
  | .hbm, ⟨27, _⟩ => ⟨S10000x128, .f32⟩
  | .hbm, ⟨28, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== Proof.IBody.lean ====
/-
  The two kernel bodies of the program, run once for any staging buffers.

  Each theorem holds the buffers the body reads and writes at named contents and says what they hold afterwards, as the
  payloads of the printed body (`Gen.k0_payN`, `Gen.k1_pay1`) of what was read.
-/
module

public import proofs.«01_k».proof.Proof.Gen.KernelIdeal.Launch
public import proofs.«01_k».proof.Proof.Gen.KernelIdeal.Skeleton
public import Idealize.ShloMosaic.Lib.Pipeline.Value
public import Idealize.ShloMosaic.Lib.Pipeline.TableIdle
public import Idealize.ShloMosaic.Lib.Tactic

@[expose] public section

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable {U : Type} [URA U]

local notation "𝕄" => MT nD τ sig Unit (Elt F) ℕ U ℕ

/-- The printed zero offsets. -/
theorem hz : (![0, 0] : Fin 2 → Nat) = fun _ => 0 := funext fun a => by fin_cases a <;> rfl

/-- A load of the whole view reads the contents it represents. -/
theorem rd {κ : Kind} {sp : Space} {s : Shape} {e : EltTy} (v : View sig κ sp s e) {off : Fin s.rank → Nat} (h : off = fun _ => 0)
    (inb : ∀ a, off a + s.size a ≤ s.size a) (X : s.Idx → Elt F e) :
    v.readAt (Elt F) (Rect.unit off s.size inb).toLoadRect (v.rep X) = X := by
  rw [View.readAt_eq_ld, View.read_rep, View.ld_unit_zero h]

/-- A buffer written once, over the whole view, is held at what was written. -/
theorem owns_written (c : Thread nD τ) {sp : Space} {s : Shape} {e : EltTy} (M : Memref sig c.2.kind sp s e)
    {off : Fin s.rank → Nat} (h : off = fun _ => 0) (inb : ∀ a, off a + s.size a ≤ s.size a) (f : M.view.ty.Contents (Elt F))
    (X Y : s.Idx → Elt F e) (hXY : X = Y) :
    (M.view.loc c ↦[M.view.set]{fullShare} M.view.writes (Elt F) f [⟨Rect.unit off s.size inb, X⟩])
      ⊢ (owns c M fullShare Y : sProp 𝕄) := by
  unfold owns
  iintro H
  iexists _; isplitr; swap; · iexact H
  ipureintro
  rw [View.read_writes_eq_canon _ _ _ (fun y => ⟨_, List.mem_singleton_self _, View.mem_set_unit_zero h inb y⟩), View.canon_unit_zero h]
  exact hXY

/-- The second kernel's body: the output's buffer ends at the scaled product of what the other three hold. -/
theorem run1 (c : Dev nD) (E : Set ℕ) (i : grid1.Coords)
    (M1 : Memref sig .tc .vmem S480x10000 .i8) (h1 : M1.IsWhole) (M2 : Memref sig .tc .vmem S480x1 .f32) (h2 : M2.IsWhole)
    (M3 : Memref sig .tc .vmem S10000x128 .bf16) (h3 : M3.IsWhole) (M4 : Memref sig .tc .vmem S480x128 .f32) (h4 : M4.IsWhole)
    (X1 : S480x10000.Idx → Elt F .i8) (X2 : S480x1.Idx → Elt F .f32) (X3 : S10000x128.Idx → Elt F .bf16) (X4 : S480x128.Idx → Elt F .f32)
    (K : PUnit → sProp 𝕄) :
    iprop((owns (c : Thread nD τ) M1 fullShare X1 ∗ owns (c : Thread nD τ) M2 fullShare X2
        ∗ owns (c : Thread nD τ) M3 fullShare X3 ∗ owns (c : Thread nD τ) M4 fullShare X4)
        ∗ (iprop(owns (c : Thread nD τ) M1 fullShare X1 ∗ owns (c : Thread nD τ) M2 fullShare X2
            ∗ owns (c : Thread nD τ) M3 fullShare X3 ∗ owns (c : Thread nD τ) M4 fullShare (k1_pay1 X1 X3 X2)) -∗ K ⟨⟩))
      ⊢ wp frame (wpE (defs₀ (F := F)) Variants.none c none) E (cc1__int8_prop_kernel i M1 h1 M2 h2 M3 h3 M4 h4) K := by
  rw [cc1__int8_prop_kernel_eq_skeleton]
  iintro ⟨⟨H1, H2, H3, H4⟩, Hk⟩
  ihave H1 := (rep_of_owns (c : Thread nD τ) M1 fullShare X1) $$ H1
  ihave H2 := (rep_of_owns (c : Thread nD τ) M2 fullShare X2) $$ H2
  ihave H3 := (rep_of_owns (c : Thread nD τ) M3 fullShare X3) $$ H3
  ihave H4 := (rep_of_owns (c : Thread nD τ) M4 fullShare X4) $$ H4
  sl_exec
  sl_step
  iapply Hk
  isplitl [H1]; · iapply owns_of_rep; iexact H1
  isplitl [H2]; · iapply owns_of_rep; iexact H2
  isplitl [H3]; · iapply owns_of_rep; iexact H3
  iapply (owns_written (c : Thread nD τ) M4 hz _ _ _ _ (by rw [rd _ hz, rd _ hz, rd _ hz])) $$ H4

/-- What the first kernel's scratch holds after its body at point `i`: the feed-forward block at the first point, what
    it held at the others. -/
def scr (i : grid0.Coords) (X1 : S10000x128.Idx → Elt F .f32) (X2 : S128x128.Idx → Elt F .f32) (X3 : S1x128.Idx → Elt F .f32)
    (X8 : S10000x128.Idx → Elt F .bf16) : S10000x128.Idx → Elt F .bf16 := if (i 0).val = 0 then k0_pay1 X1 X2 X3 else X8

/-- The first kernel's body: the scratch ends at `scr`, the three outputs' buffers at the block's product with it, the
    block's quantised entries and the rows' scales. -/
theorem run0 (c : Dev nD) (E : Set ℕ) (i : grid0.Coords)
    (M1 : Memref sig .tc .vmem S10000x128 .f32) (h1 : M1.IsWhole) (M2 : Memref sig .tc .vmem S128x128 .f32) (h2 : M2.IsWhole)
    (M3 : Memref sig .tc .vmem S1x128 .f32) (h3 : M3.IsWhole) (M4 : Memref sig .tc .vmem S480x10000 .f32) (h4 : M4.IsWhole)
    (M5 : Memref sig .tc .vmem S480x128 .bf16) (h5 : M5.IsWhole) (M6 : Memref sig .tc .vmem S480x10000 .i8) (h6 : M6.IsWhole)
    (M7 : Memref sig .tc .vmem S480x1 .f32) (h7 : M7.IsWhole) (M8 : Memref sig .tc .vmem S10000x128 .bf16) (h8 : M8.IsWhole)
    (X1 : S10000x128.Idx → Elt F .f32) (X2 : S128x128.Idx → Elt F .f32) (X3 : S1x128.Idx → Elt F .f32)
    (X4 : S480x10000.Idx → Elt F .f32) (X5 : S480x128.Idx → Elt F .bf16) (X6 : S480x10000.Idx → Elt F .i8)
    (X7 : S480x1.Idx → Elt F .f32) (X8 : S10000x128.Idx → Elt F .bf16) (K : PUnit → sProp 𝕄) :
    iprop((owns (c : Thread nD τ) M1 fullShare X1 ∗ owns (c : Thread nD τ) M2 fullShare X2
        ∗ owns (c : Thread nD τ) M3 fullShare X3 ∗ owns (c : Thread nD τ) M4 fullShare X4
        ∗ owns (c : Thread nD τ) M5 fullShare X5 ∗ owns (c : Thread nD τ) M6 fullShare X6
        ∗ owns (c : Thread nD τ) M7 fullShare X7 ∗ owns (c : Thread nD τ) M8 fullShare X8)
        ∗ (iprop(owns (c : Thread nD τ) M1 fullShare X1 ∗ owns (c : Thread nD τ) M2 fullShare X2
            ∗ owns (c : Thread nD τ) M3 fullShare X3 ∗ owns (c : Thread nD τ) M4 fullShare X4
            ∗ owns (c : Thread nD τ) M5 fullShare (k0_pay5 X4 (scr i X1 X2 X3 X8))
            ∗ owns (c : Thread nD τ) M6 fullShare (k0_pay3 X4) ∗ owns (c : Thread nD τ) M7 fullShare (k0_pay4 X4)
            ∗ owns (c : Thread nD τ) M8 fullShare (scr i X1 X2 X3 X8)) -∗ K ⟨⟩))
      ⊢ wp frame (wpE (defs₀ (F := F)) Variants.none c none) E
          (cc0__quant_prop_kernel i M1 h1 M2 h2 M3 h3 M4 h4 M5 h5 M6 h6 M7 h7 M8 h8) K := by
  rw [cc0__quant_prop_kernel_eq_skeleton]
  iintro ⟨⟨H1, H2, H3, H4, H5, H6, H7, H8⟩, Hk⟩
  ihave H1 := (rep_of_owns (c : Thread nD τ) M1 fullShare X1) $$ H1
  ihave H2 := (rep_of_owns (c : Thread nD τ) M2 fullShare X2) $$ H2
  ihave H3 := (rep_of_owns (c : Thread nD τ) M3 fullShare X3) $$ H3
  ihave H4 := (rep_of_owns (c : Thread nD τ) M4 fullShare X4) $$ H4
  ihave H5 := (rep_of_owns (c : Thread nD τ) M5 fullShare X5) $$ H5
  ihave H6 := (rep_of_owns (c : Thread nD τ) M6 fullShare X6) $$ H6
  ihave H7 := (rep_of_owns (c : Thread nD τ) M7 fullShare X7) $$ H7
  ihave H8 := (rep_of_owns (c : Thread nD τ) M8 fullShare X8) $$ H8
  have hc : (Scalar.cmpi .ne (Scalar.extui (Scalar.cmpi .eq (BitVec.ofNat 32 (i 0).val) 0#32)) 0#32 : BitVec 1) = 1#1 ↔ (i 0).val = 0 :=
    (by decide +kernel : ∀ k : Fin 21, (Scalar.cmpi .ne (Scalar.extui (Scalar.cmpi .eq (BitVec.ofNat 32 k.val) 0#32)) 0#32 : BitVec 1)
      = 1#1 ↔ k.val = 0) (i 0)
  by_cases hi : (i 0).val = 0
  · have h := hc.mpr hi
    have hs : scr i X1 X2 X3 X8 = k0_pay1 X1 X2 X3 := if_pos hi
    sl_exec
    sl_unfold_words
    sl_step
    iapply Hk
    isplitl [H1]; · iapply owns_of_rep; iexact H1
    isplitl [H2]; · iapply owns_of_rep; iexact H2
    isplitl [H3]; · iapply owns_of_rep; iexact H3
    isplitl [H4]; · iapply owns_of_rep; iexact H4
    isplitl [H5]
    · iapply (owns_written (c : Thread nD τ) M5 hz _ _ _ _ (by
        rw [hs, View.readCov_unit_zero _ hz, rd _ hz, rd _ hz, rd _ hz, rd _ hz])) $$ H5
    isplitl [H6]; · iapply (owns_written (c : Thread nD τ) M6 hz _ _ _ _ (by rw [rd _ hz])) $$ H6
    isplitl [H7]; · iapply (owns_written (c : Thread nD τ) M7 hz _ _ _ _ (by rw [rd _ hz])) $$ H7
    iapply (owns_written (c : Thread nD τ) M8 hz _ _ _ _ (by rw [hs, rd _ hz, rd _ hz, rd _ hz])) $$ H8
  · have h := mt hc.mp hi
    have hs : scr i X1 X2 X3 X8 = X8 := if_neg hi
    sl_exec
    sl_step
    iapply Hk
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply (owns_written (c : Thread nD τ) M5 hz _ _ _ _ (by rw [hs, rd _ hz, rd _ hz])) $$ H5
    isplitl [H6]; · iapply (owns_written (c : Thread nD τ) M6 hz _ _ _ _ (by rw [rd _ hz])) $$ H6
    isplitl [H7]; · iapply (owns_written (c : Thread nD τ) M7 hz _ _ _ _ (by rw [rd _ hz])) $$ H7
    rw [hs]; iapply owns_of_rep; iexact H8

end Cert.KernelIdeal.Body

end
-- ==== Proof.IData.lean ====
/-
  What the two kernel regions hold, point by point.

  Region 0 reads the features, the transposed weights and the bias whole and the graph matrix in blocks of 480 rows, the last
  of them cut at the array's end; its scratch holds the feed-forward block from the first point on. Region 1 reads the
  quantised matrix and its scales in such blocks and the first product whole. A staging buffer past the array's end holds
  words nothing reads: the data below name zeroes there, and no obligation states them.
-/
module

public import proofs.«01_k».proof.Proof.IBody
public import proofs.«01_k».proof.Proof.Gen.KernelIdeal.Points
public import proofs.«01_k».proof.Proof.Gen.KernelIdeal.Regions
public import Idealize.ShloMosaic.Lib.Pipeline.FrameBody

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window)

variable {F : FTy → Type} [FloatOps F]
variable {U : Type} [URA U]

local notation "𝕄" => MT nD τ sig Unit (Elt F) ℕ U ℕ

/-! ## Windows over a whole array -/

theorem index0_0 (t : Fin cfg0.N) (a : Fin 2) : win0_0.index t a = 0 := by fin_cases a <;> rfl
theorem index0_1 (t : Fin cfg0.N) (a : Fin 2) : win0_1.index t a = 0 := by fin_cases a <;> rfl
theorem index0_2 (t : Fin cfg0.N) (a : Fin 2) : win0_2.index t a = 0 := by fin_cases a <;> rfl
theorem index1_2 (t : Fin cfg1.N) (a : Fin 2) : win1_2.index t a = 0 := by fin_cases a <;> rfl

/-- The block of a window over a whole array is the array. -/
theorem whole0_0 (t : Fin cfg0.N) (X : S10000x128.Idx → Elt F .f32) : (win0_0.blk t).view.read (Elt F) X = X :=
  funext fun y => by
    rw [View.read_apply]
    exact congrArg X (funext fun a => Fin.ext (Window.rect_emb_val_of_index_zero win0_0 t a (index0_0 t a) y))
theorem whole0_1 (t : Fin cfg0.N) (X : S128x128.Idx → Elt F .f32) : (win0_1.blk t).view.read (Elt F) X = X :=
  funext fun y => by
    rw [View.read_apply]
    exact congrArg X (funext fun a => Fin.ext (Window.rect_emb_val_of_index_zero win0_1 t a (index0_1 t a) y))
theorem whole0_2 (t : Fin cfg0.N) (X : S1x128.Idx → Elt F .f32) : (win0_2.blk t).view.read (Elt F) X = X :=
  funext fun y => by
    rw [View.read_apply]
    exact congrArg X (funext fun a => Fin.ext (Window.rect_emb_val_of_index_zero win0_2 t a (index0_2 t a) y))
theorem whole1_2 (t : Fin cfg1.N) (X : S10000x128.Idx → Elt F .bf16) : (win1_2.blk t).view.read (Elt F) X = X :=
  funext fun y => by
    rw [View.read_apply]
    exact congrArg X (funext fun a => Fin.ext (Window.rect_emb_val_of_index_zero win1_2 t a (index1_2 t a) y))

/-! ## Region 0 -/

section Region0

variable (X : S10000x128.Idx → Elt F .f32) (Wt : S128x128.Idx → Elt F .f32) (B : S1x128.Idx → Elt F .f32)
  (G : S10000x10000.Idx → Elt F .f32)

/-- The block of rows of the graph matrix at point `t`, zeroes past the array's end. -/
def gblk (t : Fin cfg0.N) : S480x10000.Idx → Elt F .f32 :=
  win0_3.fill (grid0.coords t) (fun _ => Scalar.ofBits .f32 0#32) ((win0_3.blk t).view.read (Elt F) G)

/-- The scratch's owner before position `n`: any contents at first, the feed-forward block afterwards. -/
def scrHeld (c : Dev nD) (n : ℕ) : sProp 𝕄 :=
  if n = 0 then iprop(∃ f : Buf (Elt F) ((c : Thread nD τ).loc cc0_scratch0), ((c : Thread nD τ).loc cc0_scratch0) ↦{fullShare} f)
  else owns (c : Thread nD τ) (Memref.whole cc0_scratch0) fullShare (k0_pay1 X Wt B)

/-- The scoped buffers that neither region 0's windows nor its scratch use. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg1_1), ((c : Thread nD τ).loc cc1_stg1_1) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg3_1), ((c : Thread nD τ).loc cc1_stg3_1) ↦{fullShare} f))

/-- The scoped buffers no window of region 0 stages are the scratch and the rest. -/
theorem scopedRest0_split (c : Dev nD) :
    (Pipeline.scopedRest (Ix := Unit) (Name := ℕ) (U := U) (Lvl := ℕ) (Val := Elt F) spec0 c : sProp 𝕄)
      = iprop(scrHeld X Wt B c 0 ∗ rest0 c) := by
  rw [scopedRest0_eq]; unfold scrHeld rest0; rw [if_pos rfl]

end Region0

variable (V : Dev nD → Valuation τ sig (Elt F))

/-- Region 0's data, entered with the buffers at `V`. -/
def dat0 (c : Dev nD) : Dat τ (Elt F) Unit ℕ U ℕ cfg0 c where
  A w := V c (Proc.devRef .tc (Pipeline.arrRef spec0 w))
  after w t := match w with
    | ⟨0, _⟩ => (V c main_arg0 : S10000x128.Idx → Elt F .f32)
    | ⟨1, _⟩ => (V c main_v0 : S128x128.Idx → Elt F .f32)
    | ⟨2, _⟩ => (V c main_v1 : S1x128.Idx → Elt F .f32)
    | ⟨3, _⟩ => gblk (V c main_arg1) t
    | ⟨4, _⟩ => k0_pay5 (gblk (V c main_arg1) t) (k0_pay1 (V c main_arg0) (V c main_v0) (V c main_v1))
    | ⟨5, _⟩ => k0_pay3 (gblk (V c main_arg1) t)
    | ⟨6, _⟩ => k0_pay4 (gblk (V c main_arg1) t)
  Φ n := iprop(scrHeld (V c main_arg0) (V c main_v0) (V c main_v1) c n.val ∗ rest0 c)
  q _ := fullShare
  owed _ := 0

/-- The block of the quantised matrix at point `t`, zeroes past the array's end. -/
def qblk (Q : S10000x10000.Idx → Elt F .i8) (t : Fin cfg1.N) : S480x10000.Idx → Elt F .i8 :=
  win1_0.fill (grid1.coords t) (fun _ => (0#8 : BitVec 8)) ((win1_0.blk t).view.read (Elt F) Q)

/-- The block of the scales at point `t`, zeroes past the array's end. -/
def sblk (S : S10000x1.Idx → Elt F .f32) (t : Fin cfg1.N) : S480x1.Idx → Elt F .f32 :=
  win1_1.fill (grid1.coords t) (fun _ => Scalar.ofBits .f32 0#32) ((win1_1.blk t).view.read (Elt F) S)

/-- Region 1's data, entered with the buffers at `V`. -/
def dat1 (c : Dev nD) : Dat τ (Elt F) Unit ℕ U ℕ cfg1 c where
  A w := V c (Proc.devRef .tc (Pipeline.arrRef spec1 w))
  after w t := match w with
    | ⟨0, _⟩ => qblk (V c main_v2_1) t
    | ⟨1, _⟩ => sblk (V c main_v2_2) t
    | ⟨2, _⟩ => (V c main_v2_0 : S10000x128.Idx → Elt F .bf16)
    | ⟨3, _⟩ => k1_pay1 (qblk (V c main_v2_1) t) (V c main_v2_0) (sblk (V c main_v2_2) t)
  Φ _ := Pipeline.scopedRest spec1 c
  q _ := fullShare
  owed _ := 0

/-! ## What the buffers hold as the body begins -/

theorem before0_0 (c : Dev nD) (t : Fin cfg0.N) (d) : (dat0 (U := U) V c).before 0 t d = V c main_arg0 :=
  ((dat0 (U := U) V c).before_in_eq_fetched 0 rfl (fun _ => rfl) (fun _ _ _ => rfl) (fun t => (whole0_0 t (V c main_arg0)).symm) t d).trans
    (whole0_0 t (V c main_arg0))
theorem before0_1 (c : Dev nD) (t : Fin cfg0.N) (d) : (dat0 (U := U) V c).before 1 t d = V c main_v0 :=
  ((dat0 (U := U) V c).before_in_eq_fetched 1 rfl (fun _ => rfl) (fun _ _ _ => rfl) (fun t => (whole0_1 t (V c main_v0)).symm) t d).trans
    (whole0_1 t (V c main_v0))
theorem before0_2 (c : Dev nD) (t : Fin cfg0.N) (d) : (dat0 (U := U) V c).before 2 t d = V c main_v1 :=
  ((dat0 (U := U) V c).before_in_eq_fetched 2 rfl (fun _ => rfl) (fun _ _ _ => rfl) (fun t => (whole0_2 t (V c main_v1)).symm) t d).trans
    (whole0_2 t (V c main_v1))
theorem before0_3 (c : Dev nD) (t : Fin cfg0.N) (d) : (dat0 (U := U) V c).before 3 t d
    = win0_3.fill (grid0.coords t) d ((win0_3.blk t).view.read (Elt F) (V c main_arg1)) := by
  unfold Dat.before; rw [if_pos (fetch0_3 t)]; rfl
theorem before1_0 (c : Dev nD) (t : Fin cfg1.N) (d) : (dat1 (U := U) V c).before 0 t d
    = win1_0.fill (grid1.coords t) d ((win1_0.blk t).view.read (Elt F) (V c main_v2_1)) := by
  unfold Dat.before; rw [if_pos (fetch1_0 t)]; rfl
theorem before1_1 (c : Dev nD) (t : Fin cfg1.N) (d) : (dat1 (U := U) V c).before 1 t d
    = win1_1.fill (grid1.coords t) d ((win1_1.blk t).view.read (Elt F) (V c main_v2_2)) := by
  unfold Dat.before; rw [if_pos (fetch1_1 t)]; rfl
theorem before1_2 (c : Dev nD) (t : Fin cfg1.N) (d) : (dat1 (U := U) V c).before 2 t d = V c main_v2_0 :=
  ((dat1 (U := U) V c).before_in_eq_fetched 2 rfl (fun _ => rfl) (fun _ _ _ => rfl) (fun t => (whole1_2 t (V c main_v2_0)).symm) t d).trans
    (whole1_2 t (V c main_v2_0))

end Cert.KernelIdeal.Body

end
-- ==== Proof.IObl.lean ====
/-
  The body obligations of the two regions.

  `forget` says how much of the outputs is stated: with it, an output's buffer is handed back at contents nothing names,
  which holds in any float model; without it, at the payload of the blocks on the rows inside the array, which needs the
  payloads to be computed row by row (`Rows0`, `Rows1`), so that what fills a block past the array's end does not matter.
-/
module

public import proofs.«01_k».proof.Proof.IData

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window BodyObligationLoose)

variable {F : FTy → Type} [FloatOps F]
variable {U : Type} [URA U]

local notation "𝕄" => MT nD τ sig Unit (Elt F) ℕ U ℕ

/-- The outputs of region 0 (of region 1), where their contents are left unnamed. -/
abbrev fgt0 (forget : Bool) (w : Fin 7) : Bool := forget && decide (4 ≤ w.val)
abbrev fgt1 (forget : Bool) (w : Fin 4) : Bool := forget && decide (3 ≤ w.val)

theorem fgt0_true : fgt0 true 0 = false ∧ fgt0 true 1 = false ∧ fgt0 true 2 = false ∧ fgt0 true 3 = false
    ∧ fgt0 true 4 = true ∧ fgt0 true 5 = true ∧ fgt0 true 6 = true := by decide
theorem fgt1_true : fgt1 true 0 = false ∧ fgt1 true 1 = false ∧ fgt1 true 2 = false ∧ fgt1 true 3 = true := by decide
theorem fgt0_false (w : Fin 7) : fgt0 false w = false := rfl
theorem fgt1_false (w : Fin 4) : fgt1 false w = false := rfl

/-- Region 0's payloads are computed row by row: blocks that agree on the rows inside the array give results that do. -/
def Rows0 (F : FTy → Type) [FloatOps F] : Prop :=
  ∀ (t : Fin cfg0.N) (X Y : S480x10000.Idx → Elt F .f32) (H : S10000x128.Idx → Elt F .bf16),
    win0_3.cut (grid0.coords t) X = win0_3.cut (grid0.coords t) Y →
      win0_4.cut (grid0.coords t) (k0_pay5 X H) = win0_4.cut (grid0.coords t) (k0_pay5 Y H)
      ∧ win0_5.cut (grid0.coords t) (k0_pay3 X) = win0_5.cut (grid0.coords t) (k0_pay3 Y)
      ∧ win0_6.cut (grid0.coords t) (k0_pay4 X) = win0_6.cut (grid0.coords t) (k0_pay4 Y)

/-- So is region 1's. -/
def Rows1 (F : FTy → Type) [FloatOps F] : Prop :=
  ∀ (t : Fin cfg1.N) (Q Q' : S480x10000.Idx → Elt F .i8) (S S' : S480x1.Idx → Elt F .f32) (H : S10000x128.Idx → Elt F .bf16),
    win1_0.cut (grid1.coords t) Q = win1_0.cut (grid1.coords t) Q' →
    win1_1.cut (grid1.coords t) S = win1_1.cut (grid1.coords t) S' →
      win1_3.cut (grid1.coords t) (k1_pay1 Q H S) = win1_3.cut (grid1.coords t) (k1_pay1 Q' H S')

/-- A buffer whose contents agree with `Y` on the rows inside the array holds some filling of `Y`'s rows. -/
theorem owns_fill {G : Pipeline.Grid} (w : Pipeline.Window sig G) (i : G.Coords) (c : Thread nD τ) {sp : Space} (M : Memref sig c.2.kind sp w.block w.elt)
    (X Y : w.block.Idx → Elt F w.elt) (h : w.cut i X = w.cut i Y) :
    (owns c M fullShare X : sProp 𝕄) ⊢ iprop(∃ d, owns c M fullShare (w.fill i d (w.cut i Y))) := by
  iintro H; iexists X; rw [← h, w.fill_cut]; iexact H

theorem coord0 (t : Fin cfg0.N) : (grid0.coords t 0).val = t.val := (by decide +kernel : ∀ t : Fin grid0.N, (grid0.coords t 0).val = t.val) t

variable (V : Dev nD → Valuation τ sig (Elt F))

section Step

variable (X1 : S10000x128.Idx → Elt F .f32) (X2 : S128x128.Idx → Elt F .f32) (X3 : S1x128.Idx → Elt F .f32)

/-- The scratch, held at some contents from which the body leaves the feed-forward block. -/
theorem scrHeld_open (c : Dev nD) (t : Fin cfg0.N) : (scrHeld (U := U) X1 X2 X3 c t.val : sProp 𝕄)
    ⊢ iprop(∃ X8 : S10000x128.Idx → Elt F .bf16, ⌜scr (grid0.coords t) X1 X2 X3 X8 = k0_pay1 X1 X2 X3⌝
        ∗ owns (c : Thread nD τ) (Memref.whole cc0_scratch0) fullShare X8) := by
  unfold scrHeld scr
  rw [coord0 t]
  by_cases h : t.val = 0
  · rw [if_pos h]
    iintro ⟨%f, H⟩
    iexists f; isplitr; · ipureintro; exact if_pos h
    rw [owns_whole]; iexact H
  · rw [if_neg h]
    iintro H
    iexists (k0_pay1 X1 X2 X3); isplitr; · ipureintro; exact if_neg h
    iexact H

/-- Region 0's body at point `t`, from its buffers and the scratch. -/
theorem step0 (c : Dev nD) (t : Fin cfg0.N) (X4 : S480x10000.Idx → Elt F .f32)
    (X5 : S480x128.Idx → Elt F .bf16) (X6 : S480x10000.Idx → Elt F .i8) (X7 : S480x1.Idx → Elt F .f32) (K : PUnit → sProp 𝕄) :
    iprop((scrHeld X1 X2 X3 c t.val ∗ owns (c : Thread nD τ) (st0_0 t) fullShare X1 ∗ owns (c : Thread nD τ) (st0_1 t) fullShare X2
        ∗ owns (c : Thread nD τ) (st0_2 t) fullShare X3 ∗ owns (c : Thread nD τ) (st0_3 t) fullShare X4
        ∗ owns (c : Thread nD τ) (st0_4 t) fullShare X5 ∗ owns (c : Thread nD τ) (st0_5 t) fullShare X6
        ∗ owns (c : Thread nD τ) (st0_6 t) fullShare X7)
        ∗ (iprop(scrHeld X1 X2 X3 c (t.val + 1) ∗ owns (c : Thread nD τ) (st0_0 t) fullShare X1 ∗ owns (c : Thread nD τ) (st0_1 t) fullShare X2
            ∗ owns (c : Thread nD τ) (st0_2 t) fullShare X3 ∗ owns (c : Thread nD τ) (st0_3 t) fullShare X4
            ∗ owns (c : Thread nD τ) (st0_4 t) fullShare (k0_pay5 X4 (k0_pay1 X1 X2 X3))
            ∗ owns (c : Thread nD τ) (st0_5 t) fullShare (k0_pay3 X4) ∗ owns (c : Thread nD τ) (st0_6 t) fullShare (k0_pay4 X4)) -∗ K ⟨⟩))
      ⊢ wp frame (wpE (defs₀ (F := F)) Variants.none c none) Set.univ (bodyAt0 t) K := by
  iintro ⟨⟨HS, H0, H1, H2, H3, H4, H5, H6⟩, Hk⟩
  icases (scrHeld_open X1 X2 X3 c t) $$ HS with ⟨%X8, %h8, HS⟩
  iapply (run0 c Set.univ (grid0.coords t) _ _ _ _ _ _ _ _ _ _ _ _ _ _ _ _ X1 X2 X3 X4 X5 X6 X7 X8 K)
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  rw [h8]
  iintro ⟨H0, H1, H2, H3, H4, H5, H6, HS⟩
  iapply Hk
  isplitl [HS]
  · unfold scrHeld; rw [if_neg (Nat.succ_ne_zero _)]; iexact HS
  isplitl [H0]; · iexact H0
  isplitl [H1]; · iexact H1
  isplitl [H2]; · iexact H2
  isplitl [H3]; · iexact H3
  isplitl [H4]; · iexact H4
  isplitl [H5]; · iexact H5
  iexact H6

end Step

theorem obligation0 (forget : Bool) (hR : forget = false → Rows0 F) (c : Dev nD) :
    BodyObligationLoose (dat0 (U := U) V c) (defs₀ (F := F)) Variants.none () Set.univ (fgt0 forget) := fun t => by
  rw [bigSep_W0, bigSep_W0]
  rw [show (dat0 (U := U) V c).owesAt () t.succ = (dat0 (U := U) V c).owesAt () t.castSucc from rfl]
  rw [show (dat0 (U := U) V c).Φ t.castSucc
      = iprop(scrHeld (V c main_arg0) (V c main_v0) (V c main_v1) c t.val ∗ rest0 c) from rfl,
    show (dat0 (U := U) V c).Φ t.succ
      = iprop(scrHeld (V c main_arg0) (V c main_v0) (V c main_v1) c (t.val + 1) ∗ rest0 c) from rfl]
  have hc3 : ∀ d, win0_3.cut (grid0.coords t) (win0_3.fill (grid0.coords t) d ((win0_3.blk t).view.read (Elt F) (V c main_arg1)))
      = win0_3.cut (grid0.coords t) (gblk (V c main_arg1) t) := fun d => by
    unfold gblk; rw [win0_3.cut_fill, win0_3.cut_fill]
  cases forget with
  | true =>
    obtain ⟨e0, e1, e2, e3, e4, e5, e6⟩ := fgt0_true
    simp only [e0, e1, e2, e3, e4, e5, e6]
    iintro ⟨⟨HS, HR⟩, Ho, ⟨%d0, H0⟩, ⟨%d1, H1⟩, ⟨%d2, H2⟩, ⟨%d3, H3⟩, ⟨%X5, H4⟩, ⟨%X6, H5⟩, ⟨%X7, H6⟩⟩
    rw [before0_0, before0_1, before0_2, before0_3]
    iapply (step0 (V c main_arg0) (V c main_v0) (V c main_v1) c t _ X5 X6 X7 _)
    isplitl [HS H0 H1 H2 H3 H4 H5 H6]
    · isplitl [HS]; · iexact HS
      isplitl [H0]; · iexact H0
      isplitl [H1]; · iexact H1
      isplitl [H2]; · iexact H2
      isplitl [H3]; · iexact H3
      isplitl [H4]; · iexact H4
      isplitl [H5]; · iexact H5
      iexact H6
    iintro ⟨HS, H0, H1, H2, H3, H4, H5, H6⟩
    isplitl [HS HR]
    · isplitl [HS]; · iexact HS
      iexact HR
    isplitl [Ho]; · iexact Ho
    isplitl [H0]; · iexact H0
    isplitl [H1]; · iexact H1
    isplitl [H2]; · iexact H2
    isplitl [H3]; · iapply (owns_fill win0_3 (grid0.coords t) (c : Thread nD τ) (st0_3 t) _ (gblk (V c main_arg1) t) (hc3 d3)) $$ H3
    isplitl [H4]; · iexists _; iexact H4
    isplitl [H5]; · iexists _; iexact H5
    iexists _; iexact H6
  | false =>
    simp only [fgt0_false]
    have hr := fun X h => hR rfl t X (gblk (V c main_arg1) t) (k0_pay1 (V c main_arg0) (V c main_v0) (V c main_v1)) h
    iintro ⟨⟨HS, HR⟩, Ho, ⟨%d0, H0⟩, ⟨%d1, H1⟩, ⟨%d2, H2⟩, ⟨%d3, H3⟩, ⟨%d4, H4⟩, ⟨%d5, H5⟩, ⟨%d6, H6⟩⟩
    rw [before0_0, before0_1, before0_2, before0_3]
    iapply (step0 (V c main_arg0) (V c main_v0) (V c main_v1) c t _ _ _ _ _)
    isplitl [HS H0 H1 H2 H3 H4 H5 H6]
    · isplitl [HS]; · iexact HS
      isplitl [H0]; · iexact H0
      isplitl [H1]; · iexact H1
      isplitl [H2]; · iexact H2
      isplitl [H3]; · iexact H3
      isplitl [H4]; · iexact H4
      isplitl [H5]; · iexact H5
      iexact H6
    iintro ⟨HS, H0, H1, H2, H3, H4, H5, H6⟩
    isplitl [HS HR]
    · isplitl [HS]; · iexact HS
      iexact HR
    isplitl [Ho]; · iexact Ho
    isplitl [H0]; · iexact H0
    isplitl [H1]; · iexact H1
    isplitl [H2]; · iexact H2
    isplitl [H3]; · iapply (owns_fill win0_3 (grid0.coords t) (c : Thread nD τ) (st0_3 t) _ (gblk (V c main_arg1) t) (hc3 d3)) $$ H3
    isplitl [H4]; · iapply (owns_fill win0_4 (grid0.coords t) (c : Thread nD τ) (st0_4 t) _ _ (hr _ (hc3 d3)).1) $$ H4
    isplitl [H5]; · iapply (owns_fill win0_5 (grid0.coords t) (c : Thread nD τ) (st0_5 t) _ _ (hr _ (hc3 d3)).2.1) $$ H5
    iapply (owns_fill win0_6 (grid0.coords t) (c : Thread nD τ) (st0_6 t) _ _ (hr _ (hc3 d3)).2.2) $$ H6

theorem obligation1 (forget : Bool) (hR : forget = false → Rows1 F) (c : Dev nD) :
    BodyObligationLoose (dat1 (U := U) V c) (defs₀ (F := F)) Variants.none () Set.univ (fgt1 forget) := fun t => by
  rw [bigSep_W1, bigSep_W1]
  rw [show (dat1 (U := U) V c).Φ t.succ = (dat1 (U := U) V c).Φ t.castSucc from rfl,
    show (dat1 (U := U) V c).owesAt () t.succ = (dat1 (U := U) V c).owesAt () t.castSucc from rfl]
  have hc0 : ∀ d, win1_0.cut (grid1.coords t) (win1_0.fill (grid1.coords t) d ((win1_0.blk t).view.read (Elt F) (V c main_v2_1)))
      = win1_0.cut (grid1.coords t) (qblk (V c main_v2_1) t) := fun d => by
    unfold qblk; rw [win1_0.cut_fill, win1_0.cut_fill]
  have hc1 : ∀ d, win1_1.cut (grid1.coords t) (win1_1.fill (grid1.coords t) d ((win1_1.blk t).view.read (Elt F) (V c main_v2_2)))
      = win1_1.cut (grid1.coords t) (sblk (V c main_v2_2) t) := fun d => by
    unfold sblk; rw [win1_1.cut_fill, win1_1.cut_fill]
  cases forget with
  | true =>
    obtain ⟨e0, e1, e2, e3⟩ := fgt1_true
    simp only [e0, e1, e2, e3]
    iintro ⟨HΦ, Ho, ⟨%d0, H0⟩, ⟨%d1, H1⟩, ⟨%d2, H2⟩, ⟨%X4, H3⟩⟩
    rw [before1_0, before1_1, before1_2]
    iapply (run1 c Set.univ (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) _ _ _ _ _)
    isplitl [H0 H1 H2 H3]
    · isplitl [H0]; · iexact H0
      isplitl [H1]; · iexact H1
      isplitl [H2]; · iexact H2
      iexact H3
    iintro ⟨H0, H1, H2, H3⟩
    isplitl [HΦ]; · iexact HΦ
    isplitl [Ho]; · iexact Ho
    isplitl [H0]; · iapply (owns_fill win1_0 (grid1.coords t) (c : Thread nD τ) (st1_0 t) _ (qblk (V c main_v2_1) t) (hc0 d0)) $$ H0
    isplitl [H1]; · iapply (owns_fill win1_1 (grid1.coords t) (c : Thread nD τ) (st1_1 t) _ (sblk (V c main_v2_2) t) (hc1 d1)) $$ H1
    isplitl [H2]; · iexact H2
    iexists _; iexact H3
  | false =>
    simp only [fgt1_false]
    iintro ⟨HΦ, Ho, ⟨%d0, H0⟩, ⟨%d1, H1⟩, ⟨%d2, H2⟩, ⟨%d3, H3⟩⟩
    rw [before1_0, before1_1, before1_2]
    iapply (run1 c Set.univ (grid1.coords t) (st1_0 t) (hstage1_0 ((cfg1.slots t 0).cast nbuf1_0)) (st1_1 t) (hstage1_1 ((cfg1.slots t 1).cast nbuf1_1))
      (st1_2 t) (hstage1_2 ((cfg1.slots t 2).cast nbuf1_2)) (st1_3 t) (hstage1_3 ((cfg1.slots t 3).cast nbuf1_3)) _ _ _ _ _)
    isplitl [H0 H1 H2 H3]
    · isplitl [H0]; · iexact H0
      isplitl [H1]; · iexact H1
      isplitl [H2]; · iexact H2
      iexact H3
    iintro ⟨H0, H1, H2, H3⟩
    isplitl [HΦ]; · iexact HΦ
    isplitl [Ho]; · iexact Ho
    isplitl [H0]; · iapply (owns_fill win1_0 (grid1.coords t) (c : Thread nD τ) (st1_0 t) _ (qblk (V c main_v2_1) t) (hc0 d0)) $$ H0
    isplitl [H1]; · iapply (owns_fill win1_1 (grid1.coords t) (c : Thread nD τ) (st1_1 t) _ (sblk (V c main_v2_2) t) (hc1 d1)) $$ H1
    isplitl [H2]; · iexact H2
    iapply (owns_fill win1_3 (grid1.coords t) (c : Thread nD τ) (st1_3 t) _ _ (hR rfl t _ _ _ _ (V c main_v2_0) (hc0 d0) (hc1 d1))) $$ H3

end Cert.KernelIdeal.Body

end
-- ==== Proof.VPay.lean ====
/-
  The kernels' arithmetic over the extended reals, read at one element: each row of what a kernel computes is a function
  of the same row of its block.
-/
module

public import proofs.«01_k».proof.Proof.IObl
public import Idealize.ShloMosaic.Lib.Pointwise
public import Idealize.ShloMosaic.Lib.ValueIdx

@[expose] public section

set_option maxRecDepth 16384

noncomputable section

namespace Cert.KernelIdeal.Num

open Cert.KernelIdeal Cert.KernelIdeal.Gen
open Idealize.ShloMosaic

/-- The largest magnitude in a row, at least the float nearest to `10⁻³⁰`. -/
def rowMax (row : Fin 10000 → EReal) : EReal :=
  max (Finset.univ.fold max ⊥ fun k => max (row k) (-row k)) (Ideal.ofBits .f32 0x0DA24260#32)

/-- The constant 127. -/
def c127 : EReal := Ideal.ofBits .f32 0x42FE0000#32

/-- An entry quantised with the row's largest magnitude `m`. -/
def quant (m x : EReal) : BitVec 8 :=
  Ideal.fptosi 8 (Ideal.liftRound Ideal.roundHalfEven (x * Ideal.div c127 m))

/-- A row's scale. -/
def scale (row : Fin 10000 → EReal) : EReal := Ideal.div (rowMax row) c127

theorem absf_at (x : EReal) : FloatOps.absf (F := Ideal) (φ := .f32) x = max x (-x) := rfl
theorem fptosi_at (x : EReal) : FloatOps.fptosi (F := Ideal) (φ := .f32) 8 x = Ideal.fptosi 8 x := rfl
theorem sitofp_at (b : BitVec 8) : FloatOps.sitofp (F := Ideal) .bf16 b = ((b.toInt : ℝ) : EReal) := rfl
theorem negInf : Ideal.ofBits .f32 0xFF800000#32 = ⊥ := by simp [Ideal.ofBits, Ideal.ieee]

theorem bc_at (m : S480x1.Idx → EReal) (r : Fin 480) (k : Fin 10000) :
    broadcastTo S480x10000 m broadcasts_S480x1_S480x10000 (ix2 r k) = m (ix2 r 0) := by
  pointwise []

theorem red_at (A : S480x10000.Idx → EReal) (r : Fin 480) :
    multiReduction (F := Ideal) .maximumf [1] S480 A 0xFF800000#32 reduces_S480x10000_S480 (.inl rfl) rfl (ix1 r)
      = Finset.univ.fold max (Ideal.ofBits .f32 0xFF800000#32) fun k => A (ix2 r k) := by
  pointwise []

theorem sc_at (A : S480.Idx → EReal) (r : Fin 480) (z : Fin 1) :
    shapeCast S480x1 A shapeCasts_S480_S480x1 (ix2 r z) = A (ix1 r) := by
  pointwise []

theorem pay2_at (X : S480x10000.Idx → EReal) (r : Fin 480) (z : Fin 1) :
    k0_pay2 (F := Ideal) X (ix2 r z) = rowMax fun k => X (ix2 r k) := by
  unfold k0_pay2
  refine (ValueIdx.maximumf_apply _ _ _).trans ?_
  rw [sc_at, red_at, negInf]
  unfold rowMax
  refine congrArg₂ max ?_ rfl
  exact Finset.fold_congr fun k _ => absf_at _

theorem pay1_at (X : S10000x128.Idx → EReal) (W : S128x128.Idx → EReal) (B : S1x128.Idx → EReal) (r : Fin 10000) (l : Fin 128) :
    k0_pay1 (F := Ideal) X W B (ix2 r l) = max ((∑ k : Fin 128, X (ix2 r k) * W (ix2 k l)) + B (ix2 0 l)) 0 := by
  pointwise [k0_pay1]

theorem round_at (X Y : S480x10000.Idx → EReal) (i : S480x10000.Idx) :
    fptosi (F := Ideal) (φ := .f32) 8 (roundeven (F := Ideal) (φ := .f32) (mulf (F := Ideal) (φ := .f32) X Y)) i
      = Ideal.fptosi 8 (Ideal.liftRound Ideal.roundHalfEven (X i * Y i)) := rfl

theorem factor_at (m : S480x1.Idx → EReal) (i : S480x1.Idx) :
    divf (F := Ideal) (φ := .f32) (broadcast S480x1 (Scalar.ofBits (F := Ideal) .f32 0x42FE0000#32)) m i = Ideal.div c127 (m i) := rfl

theorem pay3_at (X : S480x10000.Idx → EReal) (r : Fin 480) (k : Fin 10000) :
    k0_pay3 (F := Ideal) X (ix2 r k) = quant (k0_pay2 (F := Ideal) X (ix2 r 0)) (X (ix2 r k)) := by
  unfold k0_pay3 quant
  refine (round_at _ _ _).trans ?_
  rw [bc_at]
  refine congrArg (fun y => Ideal.fptosi 8 (Ideal.liftRound Ideal.roundHalfEven (X (ix2 r k) * y))) ?_
  exact factor_at _ _

theorem pay4_at (X : S480x10000.Idx → EReal) (r : Fin 480) (z : Fin 1) :
    k0_pay4 (F := Ideal) X (ix2 r z) = Ideal.div (k0_pay2 (F := Ideal) X (ix2 r z)) c127 := by
  unfold k0_pay4
  generalize k0_pay2 (F := Ideal) X = m
  pointwise []
  rfl

theorem pay5_at (X : S480x10000.Idx → EReal) (H : S10000x128.Idx → EReal) (r : Fin 480) (l : Fin 128) :
    k0_pay5 (F := Ideal) X H (ix2 r l) = ∑ k : Fin 10000, X (ix2 r k) * H (ix2 k l) := by
  pointwise [k0_pay5]

theorem pay1'_at (Q : S480x10000.Idx → BitVec 8) (H : S10000x128.Idx → EReal) (S : S480x1.Idx → EReal) (r : Fin 480) (l : Fin 128) :
    k1_pay1 (F := Ideal) Q H S (ix2 r l)
      = (∑ k : Fin 10000, (((Q (ix2 r k)).toInt : ℝ) : EReal) * H (ix2 k l)) * S (ix2 r 0) := by
  pointwise [k1_pay1]
  simp only [sitofp_at]

end Cert.KernelIdeal.Num

end
-- ==== Proof.VRows.lean ====
/-
  The blocks at coordinates: which rows of its array a cut block of 480 rows holds, and that the kernels' results on those
  rows do not depend on what a staging buffer holds past them.
-/
module

public import proofs.«01_k».proof.Proof.VPay

@[expose] public section

set_option maxRecDepth 16384

noncomputable section

namespace Cert.KernelIdeal.Num

open Cert.KernelIdeal Cert.KernelIdeal.Gen Cert.KernelIdeal.Body
open Idealize.ShloMosaic

/-- How many rows of block `t` lie inside the array. -/
def rows (n : ℕ) : ℕ := min 480 (10000 - n * 480)

/-! ## The windows' sizes and places -/

theorem xs0_3 : ∀ t : Fin grid0.N, win0_3.xsize (grid0.coords t) 0 = rows t.val ∧ win0_3.xsize (grid0.coords t) 1 = 10000 := by decide +kernel
theorem xs0_4 : ∀ t : Fin grid0.N, win0_4.xsize (grid0.coords t) 0 = rows t.val := by decide +kernel
theorem xs0_5 : ∀ t : Fin grid0.N, win0_5.xsize (grid0.coords t) 0 = rows t.val := by decide +kernel
theorem xs0_6 : ∀ t : Fin grid0.N, win0_6.xsize (grid0.coords t) 0 = rows t.val := by decide +kernel
theorem xs1_0 : ∀ t : Fin grid1.N, win1_0.xsize (grid1.coords t) 0 = rows t.val ∧ win1_0.xsize (grid1.coords t) 1 = 10000 := by decide +kernel
theorem xs1_1 : ∀ t : Fin grid1.N, win1_1.xsize (grid1.coords t) 0 = rows t.val ∧ win1_1.xsize (grid1.coords t) 1 = 1 := by decide +kernel
theorem xs1_3 : ∀ t : Fin grid1.N, win1_3.xsize (grid1.coords t) 0 = rows t.val := by decide +kernel

theorem at0_3 : ∀ t : Fin grid0.N, win0_3.index t 0 = t.val ∧ win0_3.index t 1 = 0 := by decide +kernel
theorem at0_4 : ∀ t : Fin grid0.N, win0_4.index t 0 = t.val ∧ win0_4.index t 1 = 0 := by decide +kernel
theorem at0_5 : ∀ t : Fin grid0.N, win0_5.index t 0 = t.val ∧ win0_5.index t 1 = 0 := by decide +kernel
theorem at0_6 : ∀ t : Fin grid0.N, win0_6.index t 0 = t.val ∧ win0_6.index t 1 = 0 := by decide +kernel
theorem at1_0 : ∀ t : Fin grid1.N, win1_0.index t 0 = t.val ∧ win1_0.index t 1 = 0 := by decide +kernel
theorem at1_1 : ∀ t : Fin grid1.N, win1_1.index t 0 = t.val ∧ win1_1.index t 1 = 0 := by decide +kernel
theorem at1_3 : ∀ t : Fin grid1.N, win1_3.index t 0 = t.val ∧ win1_3.index t 1 = 0 := by decide +kernel

/-! ## Equal cuts -/

/-- Contents with the same moved part agree at every index of it. -/
theorem agree {G : Pipeline.Grid} (w : Pipeline.Window sig G) (i : G.Coords) {α : Type} {X Y : w.block.Idx → α}
    (h : w.cut i X = w.cut i Y) (j : w.block.Idx) (hj : ∀ a, (j a).val < w.xsize i a) : X j = Y j :=
  congrFun h fun a => ⟨(j a).val, hj a⟩

theorem agree0_3 (t : Fin grid0.N) {X Y : S480x10000.Idx → EReal} (h : win0_3.cut (grid0.coords t) X = win0_3.cut (grid0.coords t) Y)
    (r : Fin 480) (hr : r.val < rows t.val) (k : Fin 10000) : X (ix2 r k) = Y (ix2 r k) :=
  agree win0_3 _ h (ix2 r k) fun a => match a with
    | ⟨0, _⟩ => lt_of_lt_of_eq hr (xs0_3 t).1.symm
    | ⟨1, _⟩ => lt_of_lt_of_eq k.isLt (xs0_3 t).2.symm

theorem agree1_0 (t : Fin grid1.N) {X Y : S480x10000.Idx → BitVec 8} (h : win1_0.cut (grid1.coords t) X = win1_0.cut (grid1.coords t) Y)
    (r : Fin 480) (hr : r.val < rows t.val) (k : Fin 10000) : X (ix2 r k) = Y (ix2 r k) :=
  agree win1_0 _ h (ix2 r k) fun a => match a with
    | ⟨0, _⟩ => lt_of_lt_of_eq hr (xs1_0 t).1.symm
    | ⟨1, _⟩ => lt_of_lt_of_eq k.isLt (xs1_0 t).2.symm

theorem agree1_1 (t : Fin grid1.N) {X Y : S480x1.Idx → EReal} (h : win1_1.cut (grid1.coords t) X = win1_1.cut (grid1.coords t) Y)
    (r : Fin 480) (hr : r.val < rows t.val) (z : Fin 1) : X (ix2 r z) = Y (ix2 r z) :=
  agree win1_1 _ h (ix2 r z) fun a => match a with
    | ⟨0, _⟩ => lt_of_lt_of_eq hr (xs1_1 t).1.symm
    | ⟨1, _⟩ => lt_of_lt_of_eq z.isLt (xs1_1 t).2.symm

/-- Two blocks' results agree on the moved part if they do at every row inside the array. -/
theorem cut_ext {G : Pipeline.Grid} (w : Pipeline.Window sig G) (i : G.Coords) {α : Type} {X Y : w.block.Idx → α}
    (h : ∀ j : w.block.Idx, (∀ a, (j a).val < w.xsize i a) → X j = Y j) : w.cut i X = w.cut i Y :=
  funext fun y => h _ fun a => (y a).isLt

/-- Region 0's results on the rows inside the array depend on those rows alone. -/
theorem rows0 : Rows0 Ideal := by
  intro t X Y H h
  have hX : ∀ (r : Fin 480), r.val < rows t.val → (fun k => X (ix2 r k)) = fun k => Y (ix2 r k) :=
    fun r hr => funext fun k => agree0_3 t h r hr k
  refine ⟨cut_ext win0_4 _ fun j hj => ?_, cut_ext win0_5 _ fun j hj => ?_, cut_ext win0_6 _ fun j hj => ?_⟩
  · have hr := lt_of_lt_of_eq (hj 0) (xs0_4 t)
    obtain ⟨r, l, rfl⟩ : ∃ (r : Fin 480) (l : Fin 128), j = ix2 r l := ⟨j 0, j 1, eq_ix2 j⟩
    refine (pay5_at X H r l).trans (Eq.trans ?_ (pay5_at Y H r l).symm)
    exact Finset.sum_congr rfl fun k _ => congrArg (· * H (ix2 k l)) (congrFun (hX r hr) k)
  · have hr := lt_of_lt_of_eq (hj 0) (xs0_5 t)
    obtain ⟨r, l, rfl⟩ : ∃ (r : Fin 480) (l : Fin 10000), j = ix2 r l := ⟨j 0, j 1, eq_ix2 j⟩
    refine (pay3_at X r l).trans (Eq.trans ?_ (pay3_at Y r l).symm)
    rw [pay2_at, pay2_at, hX r hr]
    exact congrArg (quant _) (congrFun (hX r hr) l)
  · have hr := lt_of_lt_of_eq (hj 0) (xs0_6 t)
    obtain ⟨r, l, rfl⟩ : ∃ (r : Fin 480) (l : Fin 1), j = ix2 r l := ⟨j 0, j 1, eq_ix2 j⟩
    refine (pay4_at X r l).trans (Eq.trans ?_ (pay4_at Y r l).symm)
    rw [pay2_at, pay2_at, hX r hr]

/-- So do region 1's. -/
theorem rows1 : Rows1 Ideal := by
  intro t Q Q' S S' H hQ hS
  refine cut_ext win1_3 _ fun j hj => ?_
  have hr := lt_of_lt_of_eq (hj 0) (xs1_3 t)
  obtain ⟨r, l, rfl⟩ : ∃ (r : Fin 480) (l : Fin 128), j = ix2 r l := ⟨j 0, j 1, eq_ix2 j⟩
  refine (pay1'_at Q H S r l).trans (Eq.trans ?_ (pay1'_at Q' H S' r l).symm)
  rw [agree1_1 t hS r hr 0]
  refine congrArg (· * S' (ix2 r 0)) (Finset.sum_congr rfl fun k _ => ?_)
  rw [agree1_0 t hQ r hr k]

/-! ## A block's rows in its array -/

/-- A row inside the array of block `n`. -/
theorem row_lt {n r : ℕ} (h : r < rows n) : n * 480 + r < 10000 := by
  unfold rows at h; omega

/-- A filled block, read at an index of the moved part, holds the array's element there. -/
theorem fill_at {G : Pipeline.Grid} (w : Pipeline.Window sig G) (i : G.Coords) {α : Type} (d : w.block.Idx → α)
    (g : (w.xblock i).Idx → α) (j : w.block.Idx) (hj : ∀ a, (j a).val < w.xsize i a) :
    w.fill i d g j = g fun a => ⟨(j a).val, hj a⟩ := w.fill_xinj i d g fun a => ⟨(j a).val, hj a⟩

theorem gblk_at (A : S10000x10000.Idx → EReal) (t : Fin grid0.N) (r : Fin 480) (hr : r.val < rows t.val) (k : Fin 10000) :
    gblk (F := Ideal) A t (ix2 r k) = A (ix2 ⟨t.val * 480 + r.val, row_lt hr⟩ k) := by
  unfold gblk
  refine (fill_at win0_3 (grid0.coords t) _ _ (ix2 r k) fun a => match a with
    | ⟨0, _⟩ => lt_of_lt_of_eq hr (xs0_3 t).1.symm
    | ⟨1, _⟩ => lt_of_lt_of_eq k.isLt (xs0_3 t).2.symm).trans ?_
  rw [View.read_apply]
  refine congrArg A (Shape.idx_ext₂ ?_ ?_)
  · refine (Pipeline.Window.rect_emb_val win0_3 t _ 0).trans ?_
    rw [(at0_3 t).1]; rfl
  · refine (Pipeline.Window.rect_emb_val_of_index_zero win0_3 t 1 (at0_3 t).2 _).trans rfl

theorem qblk_at (A : S10000x10000.Idx → BitVec 8) (t : Fin grid1.N) (r : Fin 480) (hr : r.val < rows t.val) (k : Fin 10000) :
    qblk (F := Ideal) A t (ix2 r k) = A (ix2 ⟨t.val * 480 + r.val, row_lt hr⟩ k) := by
  unfold qblk
  refine (fill_at win1_0 (grid1.coords t) _ _ (ix2 r k) fun a => match a with
    | ⟨0, _⟩ => lt_of_lt_of_eq hr (xs1_0 t).1.symm
    | ⟨1, _⟩ => lt_of_lt_of_eq k.isLt (xs1_0 t).2.symm).trans ?_
  rw [View.read_apply]
  refine congrArg A (Shape.idx_ext₂ ?_ ?_)
  · refine (Pipeline.Window.rect_emb_val win1_0 t _ 0).trans ?_
    rw [(at1_0 t).1]; rfl
  · refine (Pipeline.Window.rect_emb_val_of_index_zero win1_0 t 1 (at1_0 t).2 _).trans rfl

theorem sblk_at (A : S10000x1.Idx → EReal) (t : Fin grid1.N) (r : Fin 480) (hr : r.val < rows t.val) (z : Fin 1) :
    sblk (F := Ideal) A t (ix2 r z) = A (ix2 ⟨t.val * 480 + r.val, row_lt hr⟩ z) := by
  unfold sblk
  refine (fill_at win1_1 (grid1.coords t) _ _ (ix2 r z) fun a => match a with
    | ⟨0, _⟩ => lt_of_lt_of_eq hr (xs1_1 t).1.symm
    | ⟨1, _⟩ => lt_of_lt_of_eq z.isLt (xs1_1 t).2.symm).trans ?_
  rw [View.read_apply]
  refine congrArg A (Shape.idx_ext₂ ?_ ?_)
  · refine (Pipeline.Window.rect_emb_val win1_1 t _ 0).trans ?_
    rw [(at1_1 t).1]; rfl
  · refine (Pipeline.Window.rect_emb_val_of_index_zero win1_1 t 1 (at1_1 t).2 _).trans rfl

end Cert.KernelIdeal.Num

end
-- ==== Proof.VArr.lean ====
/-
  The arrays the two regions leave, as functions of the arrays they read.
-/
module

public import proofs.«01_k».proof.Proof.VRows
public import Idealize.ShloMosaic.Lib.Pipeline.ValueKit

@[expose] public section

set_option maxRecDepth 16384

noncomputable section

namespace Cert.KernelIdeal.Num

open Cert.KernelIdeal Cert.KernelIdeal.Gen Cert.KernelIdeal.Body
open Idealize.ShloMosaic Idealize.ShloMosaic.TcCoe
open Idealize.SL Idealize.SL.RA Idealize.SL.Sem
open Idealize.ShloMosaic.Pipeline (Dat Window)

variable {U : Type} [URA U]

/-- The product of the graph matrix with a block of features. -/
def prod (G : S10000x10000.Idx → EReal) (H : S10000x128.Idx → EReal) : S10000x128.Idx → EReal :=
  fun i => ∑ k : Fin 10000, G (ix2 (i 0) k) * H (ix2 k (i 1))

/-- The graph matrix quantised row by row. -/
def quants (G : S10000x10000.Idx → EReal) : S10000x10000.Idx → BitVec 8 :=
  fun i => quant (rowMax fun k => G (ix2 (i 0) k)) (G (ix2 (i 0) (i 1)))

/-- Its rows' scales. -/
def scales (G : S10000x10000.Idx → EReal) : S10000x1.Idx → EReal :=
  fun i => scale fun k => G (ix2 (i 0) k)

/-- The product of a quantised matrix with a block of features, each row at its scale. -/
def qprod (Q : S10000x10000.Idx → BitVec 8) (H : S10000x128.Idx → EReal) (S : S10000x1.Idx → EReal) : S10000x128.Idx → EReal :=
  fun i => (∑ k : Fin 10000, (((Q (ix2 (i 0) k)).toInt : ℝ) : EReal) * H (ix2 k (i 1))) * S (ix2 (i 0) 0)

/-! ## Where an output block's element lies in its array -/

theorem emb0_4 (t : Fin grid0.N) (y : (win0_4.xblock (grid0.coords t)).Idx) (r : Fin 480) (l : Fin 128)
    (h : win0_4.xinj (grid0.coords t) y = ix2 r l) (hr : r.val < rows t.val) :
    (win0_4.rect t).emb y = (ix2 ⟨t.val * 480 + r.val, row_lt hr⟩ l : S10000x128.Idx) := by
  have h0 : (y 0).val = r.val := (Window.xinj_val win0_4 (grid0.coords t) y 0).symm.trans (congrArg Fin.val (congrFun h 0))
  have h1 : (y 1).val = l.val := (Window.xinj_val win0_4 (grid0.coords t) y 1).symm.trans (congrArg Fin.val (congrFun h 1))
  refine Shape.idx_ext₂ ?_ ?_
  · refine (Window.rect_emb_val win0_4 t y 0).trans ?_
    rw [(at0_4 t).1]; exact congrArg (t.val * 480 + ·) h0
  · exact (Window.rect_emb_val_of_index_zero win0_4 t 1 (at0_4 t).2 y).trans h1

theorem emb0_5 (t : Fin grid0.N) (y : (win0_5.xblock (grid0.coords t)).Idx) (r : Fin 480) (l : Fin 10000)
    (h : win0_5.xinj (grid0.coords t) y = ix2 r l) (hr : r.val < rows t.val) :
    (win0_5.rect t).emb y = (ix2 ⟨t.val * 480 + r.val, row_lt hr⟩ l : S10000x10000.Idx) := by
  have h0 : (y 0).val = r.val := (Window.xinj_val win0_5 (grid0.coords t) y 0).symm.trans (congrArg Fin.val (congrFun h 0))
  have h1 : (y 1).val = l.val := (Window.xinj_val win0_5 (grid0.coords t) y 1).symm.trans (congrArg Fin.val (congrFun h 1))
  refine Shape.idx_ext₂ ?_ ?_
  · refine (Window.rect_emb_val win0_5 t y 0).trans ?_
    rw [(at0_5 t).1]; exact congrArg (t.val * 480 + ·) h0
  · exact (Window.rect_emb_val_of_index_zero win0_5 t 1 (at0_5 t).2 y).trans h1

theorem emb0_6 (t : Fin grid0.N) (y : (win0_6.xblock (grid0.coords t)).Idx) (r : Fin 480) (l : Fin 1)
    (h : win0_6.xinj (grid0.coords t) y = ix2 r l) (hr : r.val < rows t.val) :
    (win0_6.rect t).emb y = (ix2 ⟨t.val * 480 + r.val, row_lt hr⟩ l : S10000x1.Idx) := by
  have h0 : (y 0).val = r.val := (Window.xinj_val win0_6 (grid0.coords t) y 0).symm.trans (congrArg Fin.val (congrFun h 0))
  have h1 : (y 1).val = l.val := (Window.xinj_val win0_6 (grid0.coords t) y 1).symm.trans (congrArg Fin.val (congrFun h 1))
  refine Shape.idx_ext₂ ?_ ?_
  · refine (Window.rect_emb_val win0_6 t y 0).trans ?_
    rw [(at0_6 t).1]; exact congrArg (t.val * 480 + ·) h0
  · exact (Window.rect_emb_val_of_index_zero win0_6 t 1 (at0_6 t).2 y).trans h1

theorem emb1_3 (t : Fin grid1.N) (y : (win1_3.xblock (grid1.coords t)).Idx) (r : Fin 480) (l : Fin 128)
    (h : win1_3.xinj (grid1.coords t) y = ix2 r l) (hr : r.val < rows t.val) :
    (win1_3.rect t).emb y = (ix2 ⟨t.val * 480 + r.val, row_lt hr⟩ l : S10000x128.Idx) := by
  have h0 : (y 0).val = r.val := (Window.xinj_val win1_3 (grid1.coords t) y 0).symm.trans (congrArg Fin.val (congrFun h 0))
  have h1 : (y 1).val = l.val := (Window.xinj_val win1_3 (grid1.coords t) y 1).symm.trans (congrArg Fin.val (congrFun h 1))
  refine Shape.idx_ext₂ ?_ ?_
  · refine (Window.rect_emb_val win1_3 t y 0).trans ?_
    rw [(at1_3 t).1]; exact congrArg (t.val * 480 + ·) h0
  · exact (Window.rect_emb_val_of_index_zero win1_3 t 1 (at1_3 t).2 y).trans h1

/-! ## The arrays -/

variable (V : Dev nD → Valuation τ sig (Elt Ideal))

/-- Region 0's first output is the graph matrix times the feed-forward block, -/
theorem arr0_4 (c : Dev nD) : (dat0 (U := U) V c).arrAt 4 cfg0.N
    = prod (V c main_arg1) (k0_pay1 (F := Ideal) (V c main_arg0) (V c main_v0) (V c main_v1)) := by
  refine (dat0 (U := U) V c).arrAt_eq_of_covers 4 _ (by decide +kernel) fun t _ y => ?_
  obtain ⟨r, l, h⟩ : ∃ (r : Fin 480) (l : Fin 128), win0_4.xinj (grid0.coords t) y = ix2 r l := ⟨_, _, eq_ix2 _⟩
  have hr : r.val < rows t.val := by
    have h0 : (y 0).val < win0_4.xsize (grid0.coords t) 0 := (y 0).isLt
    exact lt_of_eq_of_lt (congrArg Fin.val (congrFun h 0)).symm (lt_of_lt_of_eq h0 (xs0_4 t))
  show k0_pay5 (F := Ideal) (gblk (F := Ideal) (V c main_arg1) t) (k0_pay1 (F := Ideal) (V c main_arg0) (V c main_v0) (V c main_v1))
      (win0_4.xinj (grid0.coords t) y) = prod _ _ ((win0_4.rect t).emb y)
  rw [emb0_4 t y r l h hr, h, pay5_at]
  exact Finset.sum_congr rfl fun k _ => congrArg (· * _) (gblk_at _ t r hr k)

/-- its second the quantised matrix, -/
theorem arr0_5 (c : Dev nD) : (dat0 (U := U) V c).arrAt 5 cfg0.N = quants (V c main_arg1) := by
  refine (dat0 (U := U) V c).arrAt_eq_of_covers 5 _ (by decide +kernel) fun t _ y => ?_
  obtain ⟨r, l, h⟩ : ∃ (r : Fin 480) (l : Fin 10000), win0_5.xinj (grid0.coords t) y = ix2 r l := ⟨_, _, eq_ix2 _⟩
  have hr : r.val < rows t.val := by
    have h0 : (y 0).val < win0_5.xsize (grid0.coords t) 0 := (y 0).isLt
    exact lt_of_eq_of_lt (congrArg Fin.val (congrFun h 0)).symm (lt_of_lt_of_eq h0 (xs0_5 t))
  show k0_pay3 (F := Ideal) (gblk (F := Ideal) (V c main_arg1) t) (win0_5.xinj (grid0.coords t) y) = quants _ ((win0_5.rect t).emb y)
  rw [emb0_5 t y r l h hr, h, pay3_at, pay2_at, funext fun k => gblk_at (V c main_arg1) t r hr k, gblk_at (V c main_arg1) t r hr l]
  rfl

/-- and its third the scales. -/
theorem arr0_6 (c : Dev nD) : (dat0 (U := U) V c).arrAt 6 cfg0.N = scales (V c main_arg1) := by
  refine (dat0 (U := U) V c).arrAt_eq_of_covers 6 _ (by decide +kernel) fun t _ y => ?_
  obtain ⟨r, l, h⟩ : ∃ (r : Fin 480) (l : Fin 1), win0_6.xinj (grid0.coords t) y = ix2 r l := ⟨_, _, eq_ix2 _⟩
  have hr : r.val < rows t.val := by
    have h0 : (y 0).val < win0_6.xsize (grid0.coords t) 0 := (y 0).isLt
    exact lt_of_eq_of_lt (congrArg Fin.val (congrFun h 0)).symm (lt_of_lt_of_eq h0 (xs0_6 t))
  show k0_pay4 (F := Ideal) (gblk (F := Ideal) (V c main_arg1) t) (win0_6.xinj (grid0.coords t) y) = scales _ ((win0_6.rect t).emb y)
  rw [emb0_6 t y r l h hr, h, pay4_at, pay2_at, funext fun k => gblk_at (V c main_arg1) t r hr k]
  rfl

/-- Region 1's output is the quantised matrix times the features it is given, at the scales. -/
theorem arr1_3 (c : Dev nD) : (dat1 (U := U) V c).arrAt 3 cfg1.N
    = qprod (V c main_v2_1) (V c main_v2_0) (V c main_v2_2) := by
  refine (dat1 (U := U) V c).arrAt_eq_of_covers 3 _ (by decide +kernel) fun t _ y => ?_
  obtain ⟨r, l, h⟩ : ∃ (r : Fin 480) (l : Fin 128), win1_3.xinj (grid1.coords t) y = ix2 r l := ⟨_, _, eq_ix2 _⟩
  have hr : r.val < rows t.val := by
    have h0 : (y 0).val < win1_3.xsize (grid1.coords t) 0 := (y 0).isLt
    exact lt_of_eq_of_lt (congrArg Fin.val (congrFun h 0)).symm (lt_of_lt_of_eq h0 (xs1_3 t))
  show k1_pay1 (F := Ideal) (qblk (F := Ideal) (V c main_v2_1) t) (V c main_v2_0) (sblk (F := Ideal) (V c main_v2_2) t)
      (win1_3.xinj (grid1.coords t) y) = qprod _ _ _ ((win1_3.rect t).emb y)
  rw [emb1_3 t y r l h hr, h, pay1'_at, sblk_at _ t r hr 0]
  refine congrArg (· * _) (Finset.sum_congr rfl fun k _ => ?_)
  rw [qblk_at _ t r hr k]
  rfl

end Cert.KernelIdeal.Num

end
-- ==== Proof.ISeg.lean ====
/-
  The two regions as segments of @main.

  Region 0 is entered with every buffer outside the kernels at `Va` and leaves the three arrays it writes at new contents;
  region 1 is entered at `Vb` and leaves the result's array at new contents. Where the outputs are not forgotten, the new
  contents are the ones the region's data compute.
-/
module

public import proofs.«01_k».proof.Proof.IObl
public import Idealize.ShloMosaic.Lib.Pipeline.RegionTalk
public import Idealize.ShloMosaic.Lib.Pipeline.RegionArraysF
public import Idealize.ShloMosaic.Lib.Pipeline.RegionsLoop

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Window BodyObligationLoose)

variable {F : FTy → Type} [FloatOps F]
variable {U : Type} [URA U]

local notation "𝕄" => MT nD τ sig Unit (Elt F) ℕ U ℕ

/-- The certificate assigns no cell an index and every cell one level. -/
abbrev L : GSem nD τ sig → Finset Unit := fun _ => ∅
abbrev lv : GSem nD τ sig → Unit → ℕ := fun _ _ => 0

variable (Va Vb : Dev nD → Valuation τ sig (Elt F)) (forget : Bool)

/-- Both regions' data. -/
def dats (p : Fin 2) (c : Dev nD) : Dat τ (Elt F) Unit ℕ U ℕ (cfgs p) c := match p with
  | ⟨0, _⟩ => dat0 Va c
  | ⟨1, _⟩ => dat1 Vb c

/-- The outputs of both, where forgotten. -/
def fgt (p : Fin 2) : Fin (cfgs p).W → Bool := match p with
  | ⟨0, _⟩ => fgt0 forget
  | ⟨1, _⟩ => fgt1 forget

/-- The data with the outputs forgotten where `forget` says so. -/
abbrev rdats (p : Fin 2) (c : Dev nD) : RDat τ (Elt F) Unit ℕ U ℕ (cfgs p) c := (dats Va Vb p c).toRForget (fgt forget p)

/-- A valuation with region 0's outputs replaced, -/
def upd0 (V : Valuation τ sig (Elt F)) (o0 : S10000x128.Idx → Elt F .bf16) (o1 : S10000x10000.Idx → Elt F .i8) (o2 : S10000x1.Idx → Elt F .f32) :
    Valuation τ sig (Elt F) := Function.update (Function.update (Function.update V main_v2_0 o0) main_v2_1 o1) main_v2_2 o2
/-- and one with region 1's output replaced. -/
def upd1 (V : Valuation τ sig (Elt F)) (o3 : S10000x128.Idx → Elt F .f32) : Valuation τ sig (Elt F) := Function.update V main_v3 o3

section Upd
variable (V : Valuation τ sig (Elt F)) (o0 : S10000x128.Idx → Elt F .bf16) (o1 : S10000x10000.Idx → Elt F .i8) (o2 : S10000x1.Idx → Elt F .f32)
  (o3 : S10000x128.Idx → Elt F .f32)

theorem upd0_of (r : Ref sig .tc) (h : r ∉ ([main_v2_0, main_v2_1, main_v2_2] : List (Ref sig .tc))) : upd0 V o0 o1 o2 r = V r := by
  rw [List.mem_cons, List.mem_cons, List.mem_cons, not_or, not_or, not_or] at h
  unfold upd0
  rw [Function.update_of_ne (StableHlo.devRef_ne_of_ne h.2.2.1), Function.update_of_ne (StableHlo.devRef_ne_of_ne h.2.1),
    Function.update_of_ne (StableHlo.devRef_ne_of_ne h.1)]
theorem upd0_2 : upd0 V o0 o1 o2 main_v2_2 = o2 := Function.update_self ..
theorem upd0_1 : upd0 V o0 o1 o2 main_v2_1 = o1 := by
  unfold upd0; rw [Function.update_of_ne (StableHlo.devRef_ne_of_ne (by decide))]; exact Function.update_self ..
theorem upd0_0 : upd0 V o0 o1 o2 main_v2_0 = o0 := by
  unfold upd0
  rw [Function.update_of_ne (StableHlo.devRef_ne_of_ne (by decide)), Function.update_of_ne (StableHlo.devRef_ne_of_ne (by decide))]
  exact Function.update_self ..
theorem upd1_of (r : Ref sig .tc) (h : r ≠ main_v3) : upd1 V o3 r = V r := by
  unfold upd1; rw [Function.update_of_ne (StableHlo.devRef_ne_of_ne h)]
theorem upd1_3 : upd1 V o3 main_v3 = o3 := Function.update_self ..
end Upd

/-- What core `c` holds outside a region: every buffer outside the kernels at `V`, nothing owed. -/
def st (V : Valuation τ sig (Elt F)) (c : Dev nD) : sProp 𝕄 :=
  iprop(StableHlo.held (c : Thread nD τ) (Pipeline.ucRefs τ sig) V ∗ ∃ W, owes (c : Thread nD τ) (0 : CellTallies nD τ sig Unit) W)

/-- Region 0's outputs are the ones its data compute, unless forgotten. -/
def Out0 (c : Dev nD) (o0 : S10000x128.Idx → Elt F .bf16) (o1 : S10000x10000.Idx → Elt F .i8) (o2 : S10000x1.Idx → Elt F .f32) : Prop :=
  forget = false → o0 = (dat0 (U := U) Va c).arrAt 4 cfg0.N ∧ o1 = (dat0 (U := U) Va c).arrAt 5 cfg0.N ∧ o2 = (dat0 (U := U) Va c).arrAt 6 cfg0.N
/-- Region 1's is. -/
def Out1 (c : Dev nD) (o3 : S10000x128.Idx → Elt F .f32) : Prop := forget = false → o3 = (dat1 (U := U) Vb c).arrAt 3 cfg1.N

theorem fgt0_in (w : Fin 7) (h : ¬4 ≤ w.val) : fgt0 forget w = false := by unfold fgt0; rw [decide_eq_false h, Bool.and_false]
theorem fgt1_in (w : Fin 4) (h : ¬3 ≤ w.val) : fgt1 forget w = false := by unfold fgt1; rw [decide_eq_false h, Bool.and_false]

/-- Region 0's output arrays are among its windows' arrays. -/
theorem arrs0 {b : Ref sig .tc} (h : b ∈ ([main_v2_0, main_v2_1, main_v2_2] : List (Ref sig .tc))) :
    b ∈ Finset.univ.image (Pipeline.arrRef spec0) := by
  rw [List.mem_cons, List.mem_cons, List.mem_singleton] at h
  rcases h with rfl | rfl | rfl
  · exact Finset.mem_image.mpr ⟨4, Finset.mem_univ _, rfl⟩
  · exact Finset.mem_image.mpr ⟨5, Finset.mem_univ _, rfl⟩
  · exact Finset.mem_image.mpr ⟨6, Finset.mem_univ _, rfl⟩

/-- The scratch at any position is the scratch at some contents. -/
theorem scrHeld_any (X : S10000x128.Idx → Elt F .f32) (Wt : S128x128.Idx → Elt F .f32) (B : S1x128.Idx → Elt F .f32) (c : Dev nD) (n : ℕ) :
    (scrHeld (U := U) X Wt B c n : sProp 𝕄) ⊢ scrHeld X Wt B c 0 := by
  unfold scrHeld
  rw [if_pos (rfl : (0 : ℕ) = 0)]
  by_cases h : n = 0
  · rw [if_pos h]
  · rw [if_neg h, owns_whole]
    iintro H; iexists _; iexact H

/-- Region 0. -/
def reg0 (hR : forget = false → Rows0 F) :
    RDat.RegionSeg (pcfgs (F := F)) adm (rdats (U := U) Va Vb forget) () (defs₀ (F := F)) Variants.none L lv 0 where
  win := launch0.win.to₀
  block_pos := launch0.block_pos
  stage_whole := launch0.stage_whole
  K := PEmpty
  osem k := k.elim
  ho := Pipeline.OwnSemFacts.none _
  hbody c := (obligation0 Va forget hR c).toRForget
  hwaits := RDat.hwaits_of_owed_zero (pcfgs (F := F)) adm (rdats (U := U) Va Vb forget) () L lv 0 fun _ _ => rfl
  pre c := st (Va c) c
  post c := iprop(∃ o0 o1 o2, ⌜Out0 (U := U) Va forget c o0 o1 o2⌝ ∗ st (upd0 (Va c) o0 o1 o2) c)
  X _ := BI.emp
  Y _ := BI.emp
  Z c := Pipeline.unscopedRest spec0 c (fun b => Va c b)
  hentry c := by
    rw [Pipeline.ownSems0_none]
    have hsplit := RDat.arrays_of_unscopedBufs (p := 0) (pcfgs (F := F)) adm (rdats (U := U) Va Vb forget) launch0.win launch0.arr_whole c
      ((dat0 (U := U) Va c).share_full fun _ => rfl) (fun b => Va c b) fun _ => rfl
    unfold st
    rw [← Pipeline.unscopedBufs_held (Ix := Unit) (Name := ℕ) (U := U) (Lvl := ℕ) c (Va c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitr; · iempintro
    iexact Hrest
  hin c := by
    show _ ⊢ iprop(scrHeld (Va c main_arg0) (Va c main_v0) (Va c main_v1) c 0 ∗ rest0 c)
    rw [← scopedRest0_split]
    iintro ⟨-, -, Hr⟩; iexact Hr
  hout c := by
    rw [Pipeline.ownSems0_none]
    show iprop(scrHeld (Va c main_arg0) (Va c main_v0) (Va c main_v1) c cfg0.N ∗ rest0 c) ⊢ iprop(BI.emp ∗ BI.emp ∗ Pipeline.scopedRest spec0 c)
    rw [scopedRest0_split (Va c main_arg0) (Va c main_v0) (Va c main_v1)]
    iintro ⟨HS, Hr⟩
    isplitr; · iempintro
    isplitr; · iempintro
    isplitl [HS]
    · iapply (scrHeld_any _ _ _ c cfg0.N) $$ HS
    iexact Hr
  hexit c := by
    show iprop(((dat0 (U := U) Va c).toRForget (fgt0 forget)).arraysAt cfg0.N ∗ _ ∗ _ ∗ _) ⊢ _
    iintro ⟨Ha, HO, -, Hrest⟩
    ihave H := ((dat0 (U := U) Va c).arraysAt_forget (fgt0 forget) cfg0.N) $$ Ha
    icases H with ⟨%A, %hA, Ha⟩
    have hjoin := Pipeline.unscopedBufs_of_arrays (p := 0) (pcfgs (F := F)) adm (Ix := Unit) (Name := ℕ) (U := U) (Lvl := ℕ) launch0.win launch0.arr_whole c
      (dats (U := U) Va Vb) ((dat0 (U := U) Va c).share_full fun _ => rfl) (fun b => Va c b) (fun b => upd0 (Va c) (A 4) (A 5) (A 6) b) A
      (fun w => by
        fin_cases w
        · exact (hA 0 (fgt0_in forget 0 (by decide))).trans (((dat0 (U := U) Va c).arrAt_in 0 rfl _).trans (upd0_of _ _ _ _ main_arg0 (by decide)).symm)
        · exact (hA 1 (fgt0_in forget 1 (by decide))).trans (((dat0 (U := U) Va c).arrAt_in 1 rfl _).trans (upd0_of _ _ _ _ main_v0 (by decide)).symm)
        · exact (hA 2 (fgt0_in forget 2 (by decide))).trans (((dat0 (U := U) Va c).arrAt_in 2 rfl _).trans (upd0_of _ _ _ _ main_v1 (by decide)).symm)
        · exact (hA 3 (fgt0_in forget 3 (by decide))).trans (((dat0 (U := U) Va c).arrAt_in 3 rfl _).trans (upd0_of _ _ _ _ main_arg1 (by decide)).symm)
        · exact (upd0_0 (Va c) (A 4) (A 5) (A 6)).symm
        · exact (upd0_1 (Va c) (A 4) (A 5) (A 6)).symm
        · exact (upd0_2 (Va c) (A 4) (A 5) (A 6)).symm)
      (fun b hb => upd0_of _ _ _ _ b fun h => hb (arrs0 h))
    imodintro
    iexists (A 4); iexists (A 5); iexists (A 6)
    isplitr
    · ipureintro
      intro hf; subst hf
      exact ⟨hA 4 rfl, hA 5 rfl, hA 6 rfl⟩
    unfold st
    rw [← Pipeline.unscopedBufs_held (Ix := Unit) (Name := ℕ) (U := U) (Lvl := ℕ) c (upd0 (Va c) (A 4) (A 5) (A 6))]
    isplitl [Ha Hrest]
    · iapply hjoin
      isplitl [Ha]; · iexact Ha
      iexact Hrest
    icases HO with ⟨%W, -, HO⟩; iexists W; iexact HO

/-- Region 1. -/
def reg1 (hR : forget = false → Rows1 F) :
    RDat.RegionSeg (pcfgs (F := F)) adm (rdats (U := U) Va Vb forget) () (defs₀ (F := F)) Variants.none L lv 1 where
  win := launch1.win.to₀
  block_pos := launch1.block_pos
  stage_whole := launch1.stage_whole
  K := PEmpty
  osem k := k.elim
  ho := Pipeline.OwnSemFacts.none _
  hbody c := (obligation1 Vb forget hR c).toRForget
  hwaits := RDat.hwaits_of_owed_zero (pcfgs (F := F)) adm (rdats (U := U) Va Vb forget) () L lv 1 fun _ _ => rfl
  pre c := st (Vb c) c
  post c := iprop(∃ o3, ⌜Out1 (U := U) Vb forget c o3⌝ ∗ st (upd1 (Vb c) o3) c)
  X _ := BI.emp
  Y _ := BI.emp
  Z c := Pipeline.unscopedRest spec1 c (fun b => Vb c b)
  hentry c := by
    rw [Pipeline.ownSems0_none]
    have hsplit := RDat.arrays_of_unscopedBufs (p := 1) (pcfgs (F := F)) adm (rdats (U := U) Va Vb forget) launch1.win launch1.arr_whole c
      ((dat1 (U := U) Vb c).share_full fun _ => rfl) (fun b => Vb c b) fun _ => rfl
    unfold st
    rw [← Pipeline.unscopedBufs_held (Ix := Unit) (Name := ℕ) (U := U) (Lvl := ℕ) c (Vb c)]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩; iexists W; isplitr; · ipureintro; exact fun _ _ => Or.inl trivial
      iexact HO
    isplitr; · iempintro
    iexact Hrest
  hin c := by
    show _ ⊢ (Pipeline.scopedRest spec1 c : sProp 𝕄)
    iintro ⟨-, -, Hr⟩; iexact Hr
  hout c := by
    rw [Pipeline.ownSems0_none]
    show (Pipeline.scopedRest spec1 c : sProp 𝕄) ⊢ iprop(BI.emp ∗ BI.emp ∗ Pipeline.scopedRest spec1 c)
    iintro Hr
    isplitr; · iempintro
    isplitr; · iempintro
    iexact Hr
  hexit c := by
    show iprop(((dat1 (U := U) Vb c).toRForget (fgt1 forget)).arraysAt cfg1.N ∗ _ ∗ _ ∗ _) ⊢ _
    iintro ⟨Ha, HO, -, Hrest⟩
    ihave H := ((dat1 (U := U) Vb c).arraysAt_forget (fgt1 forget) cfg1.N) $$ Ha
    icases H with ⟨%A, %hA, Ha⟩
    have hjoin := Pipeline.unscopedBufs_of_arrays (p := 1) (pcfgs (F := F)) adm (Ix := Unit) (Name := ℕ) (U := U) (Lvl := ℕ) launch1.win launch1.arr_whole c
      (dats (U := U) Va Vb) ((dat1 (U := U) Vb c).share_full fun _ => rfl) (fun b => Vb c b) (fun b => upd1 (Vb c) (A 3) b) A
      (fun w => by
        fin_cases w
        · exact (hA 0 (fgt1_in forget 0 (by decide))).trans (((dat1 (U := U) Vb c).arrAt_in 0 rfl _).trans (upd1_of _ _ main_v2_1 (by decide)).symm)
        · exact (hA 1 (fgt1_in forget 1 (by decide))).trans (((dat1 (U := U) Vb c).arrAt_in 1 rfl _).trans (upd1_of _ _ main_v2_2 (by decide)).symm)
        · exact (hA 2 (fgt1_in forget 2 (by decide))).trans (((dat1 (U := U) Vb c).arrAt_in 2 rfl _).trans (upd1_of _ _ main_v2_0 (by decide)).symm)
        · exact (upd1_3 (Vb c) (A 3)).symm)
      (fun b hb => upd1_of _ _ b fun h => hb (h ▸ Finset.mem_image.mpr ⟨3, Finset.mem_univ _, rfl⟩))
    imodintro
    iexists (A 3)
    isplitr
    · ipureintro
      intro hf; subst hf
      exact hA 3 rfl
    unfold st
    rw [← Pipeline.unscopedBufs_held (Ix := Unit) (Name := ℕ) (U := U) (Lvl := ℕ) c (upd1 (Vb c) (A 3))]
    isplitl [Ha Hrest]
    · iapply hjoin
      isplitl [Ha]; · iexact Ha
      iexact Hrest
    icases HO with ⟨%W, -, HO⟩; iexists W; iexact HO

end Cert.KernelIdeal.Body

end
-- ==== Proof.IRun.lean ====
/-
  The run of @main: the host stretch, then the two regions one after the other.

  What region 1 reads is what region 0 left, which the first region's record names only up to `∃` where its outputs are
  forgotten. So each region runs as a fragment of its own, which opens what the fragment before it left, picks its record
  there and takes the pipeline's ghost state out of what the launch dealt it.
-/
module

public import proofs.«01_k».proof.Proof.ISeg

@[expose] public section

set_option maxRecDepth 16384

noncomputable section

namespace Cert.KernelIdeal.Body

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Window HostSeg)

variable {F : FTy → Type} [FloatOps F]

/-- Two copies of the staging cells' algebra: the run's own, and the one the regions' fragments carry. -/
abbrev UU : Type := UR sig nD τ × UR sig nD τ

local notation "𝕄" => MT nD τ sig Unit (Elt F) ℕ UU ℕ

/-- The launch element of one copy. -/
def e₀ : UR sig nD τ := initOf (Pipeline.cells cfgs cellOf_inj) (Pipeline.launchToks cfgs cellOf_inj)

/-- Pipeline `p`'s ghost state at the second copy. -/
def ghost (p : Fin 2) (c : Dev nD) : sProp 𝕄 := iprop(Pipeline.cellsGhost cfgs embR p c ∗ Pipeline.toksInit cfgs embR p c)

/-- A separating conjunction over the two pipelines. -/
theorem two (Φ : Fin 2 → sProp 𝕄) : bigSep Finset.univ Φ = iprop(Φ 0 ∗ Φ 1) := BI.bigSep_fin_two Φ

theorem regroup (C0 C1 T0 T1 : sProp 𝕄) : iprop((C0 ∗ C1) ∗ T0 ∗ T1) ⊢ iprop((C0 ∗ T0) ∗ C1 ∗ T1) := by
  iintro ⟨⟨C0, C1⟩, T0, T1⟩
  isplitl [C0 T0]
  · isplitl [C0]; · iexact C0
    iexact T0
  isplitl [C1]; · iexact C1
  iexact T1

/-- What the launch deals: the run's own copy, and each core both pipelines' ghost state at the second. -/
theorem deal : (ownU (e₀, e₀) : sProp 𝕄) ⊢ |={Set.univ}=> iprop(BI.own (embL e₀)
    ∗ bigSep Finset.univ fun c : Dev nD => iprop(ghost 0 c ∗ ghost 1 c)) := by
  have hfund := Pipeline.fund_ghost (Ix := Unit) (Val := Elt F) (Name := ℕ) (U := UU) (Lvl := ℕ) (nD := nD) (τ := τ) cfgs embR cellOf_inj
  have hdist : (bigSep Finset.univ fun c : Dev nD => iprop((bigSep Finset.univ fun p => Pipeline.cellsGhost cfgs embR p c)
        ∗ bigSep Finset.univ fun p => Pipeline.toksInit cfgs embR p c))
      ⊢ (bigSep Finset.univ fun c : Dev nD => iprop(ghost 0 c ∗ ghost 1 c) : sProp 𝕄) := bigSep_mono fun c _ => by
    rw [two, two]
    exact regroup _ _ _ _
  unfold e₀
  iintro Hu
  ihave H := (ownU_pair _ _) $$ Hu
  icases H with ⟨HP, HX⟩
  imod hfund $$ HX with ⟨HC, HT⟩
  imodintro
  isplitl [HP]; · iexact HP
  ihave H := (Entails.of_eq (bigSep_sep' ..).symm) $$ [HC HT]
  · isplitl [HC]; · iexact HC
    iexact HT
  iapply hdist $$ H

variable (m : (ℓ : Loc nD τ sig) → Buf (Elt F) ℓ) (forget : Bool)

/-- What rides along the host stretch. -/
def E (_ : Fin 3) (c : Dev nD) : sProp 𝕄 :=
  iprop((∃ W, owes (c : Thread nD τ) (0 : CellTallies nD τ sig Unit) W) ∗ ghost 0 c ∗ ghost 1 c)

/-- After region 0. -/
def mid (c : Dev nD) : sProp 𝕄 :=
  iprop(∃ o0 o1 o2, ⌜Out0 (U := UU) (V1 m) forget c o0 o1 o2⌝ ∗ st (upd0 (V1 m c) o0 o1 o2) c ∗ ghost 1 c)

/-- After region 1. -/
def fin (c : Dev nD) : sProp 𝕄 :=
  iprop(∃ o0 o1 o2 o3, ⌜Out0 (U := UU) (V1 m) forget c o0 o1 o2 ∧ Out1 (U := UU) (fun _ => upd0 (V1 m c) o0 o1 o2) forget c o3⌝
    ∗ st (upd1 (upd0 (V1 m c) o0 o1 o2) o3) c)

/-- Region 0 as a fragment. -/
def call0 (hR : forget = false → Rows0 F) :
    HostSeg (Ix := Unit) (Name := ℕ) (U := UU) (Lvl := ℕ) (pcfgs (F := F)) defs₀ Variants.none L lv where
  prog := Prog.lift (.customCall (Pipeline.entry 0) ())
  pre c := iprop(StableHlo.held (c : Thread nD τ) (Pipeline.ucRefs τ sig) (V1 m c) ∗ E 0 c)
  post c := mid m forget c
  run c β k K := by
    have hw := Pipeline.RDat.RegionSeg.wp (pcfgs (F := F)) adm (rdats (U := UU) (V1 m) (V1 m) forget) () cellOf_inj embR defs₀ Variants.none L lv
      (reg0 (V1 m) (V1 m) forget hR) c none (fun u hu => absurd hu (Option.not_mem_none u)) k K
    rw [show (reg0 (U := UU) (V1 m) (V1 m) forget hR).post c
        = iprop(∃ o0 o1 o2, ⌜Out0 (U := UU) (V1 m) forget c o0 o1 o2⌝ ∗ st (upd0 (V1 m c) o0 o1 o2) c) from rfl,
      show (reg0 (U := UU) (V1 m) (V1 m) forget hR).pre c = st (V1 m c) c from rfl] at hw
    unfold E
    iintro ⟨Hk, Hb, ⟨Hh, HO, G0, G1⟩, HL⟩
    iapply hw
    isplitl [Hk G1]
    · iintro ⟨Hb, %o0, %o1, %o2, %ho, Hs⟩
      iapply Hk
      isplitl [Hb]; · iexact Hb
      unfold mid
      iexists o0; iexists o1; iexists o2
      isplitr; · ipureintro; exact ho
      isplitl [Hs]; · iexact Hs
      iexact G1
    isplitl [Hb]; · iexact Hb
    isplitl [Hh HO]
    · unfold st
      isplitl [Hh]; · iexact Hh
      iexact HO
    isplitl [HL]; · iexact HL
    unfold ghost
    iexact G0

/-- Region 1 as a fragment. -/
def call1 (hR : forget = false → Rows1 F) :
    HostSeg (Ix := Unit) (Name := ℕ) (U := UU) (Lvl := ℕ) (pcfgs (F := F)) defs₀ Variants.none L lv where
  prog := Prog.lift (.customCall (Pipeline.entry 1) ())
  pre c := mid m forget c
  post c := fin m forget c
  run c β k K := by
    unfold mid
    iintro ⟨Hk, Hb, ⟨%o0, %o1, %o2, %ho, Hs, G1⟩, HL⟩
    have hw := Pipeline.RDat.RegionSeg.wp (pcfgs (F := F)) adm (rdats (U := UU) (V1 m) (fun _ => upd0 (V1 m c) o0 o1 o2) forget) () cellOf_inj embR
      defs₀ Variants.none L lv (reg1 (V1 m) (fun _ => upd0 (V1 m c) o0 o1 o2) forget hR) c none (fun u hu => absurd hu (Option.not_mem_none u)) k K
    rw [show (reg1 (U := UU) (V1 m) (fun _ => upd0 (V1 m c) o0 o1 o2) forget hR).post c
        = iprop(∃ o3, ⌜Out1 (U := UU) (fun _ => upd0 (V1 m c) o0 o1 o2) forget c o3⌝ ∗ st (upd1 (upd0 (V1 m c) o0 o1 o2) o3) c) from rfl,
      show (reg1 (U := UU) (V1 m) (fun _ => upd0 (V1 m c) o0 o1 o2) forget hR).pre c = st (upd0 (V1 m c) o0 o1 o2) c from rfl] at hw
    iapply hw
    isplitl [Hk]
    · iintro ⟨Hb, %o3, %ho3, Hs⟩
      iapply Hk
      isplitl [Hb]; · iexact Hb
      unfold fin
      iexists o0; iexists o1; iexists o2; iexists o3
      isplitr; · ipureintro; exact ⟨ho, ho3⟩
      iexact Hs
    isplitl [Hb]; · iexact Hb
    isplitl [Hs]; · iexact Hs
    isplitl [HL]; · iexact HL
    unfold ghost
    iexact G1

/-- What the result's array may hold at the end. -/
def Ends (c : Dev nD) (v : S10000x128.Idx → Elt F .f32) : Prop :=
  ∃ o0 o1 o2, Out0 (U := UU) (V1 m) forget c o0 o1 o2 ∧ Out1 (U := UU) (fun _ => upd0 (V1 m c) o0 o1 o2) forget c v

/-- A buffer no item writes ends as launched. -/
theorem kept (c : Dev nD) (o0 : S10000x128.Idx → Elt F .bf16) (o1 : S10000x10000.Idx → Elt F .i8) (o2 : S10000x1.Idx → Elt F .f32)
    (o3 : S10000x128.Idx → Elt F .f32) (r : Ref sig .tc) (h : r ∉ hostOps0_W) (h0 : r ∉ ([main_v2_0, main_v2_1, main_v2_2] : List (Ref sig .tc)))
    (h1 : r ≠ main_v3) : upd1 (upd0 (V1 m c) o0 o1 o2) o3 r = m ((c : Thread nD τ).loc r) :=
  (upd1_of _ _ r h1).trans ((upd0_of _ _ _ _ r h0).trans (V1_of m c r h))

set_option backward.isDefEq.respectTransparency.types false in
/-- THE RUN: @main terminates from any launch; every argument ends unchanged, the result's array holds what the two regions
    leave there, and every semaphore counter reads zero. -/
theorem run_main (hR0 : forget = false → Rows0 F) (hR1 : forget = false → Rows1 F) (ρ : Dev nD → PrngReg) :
    θ_run defs (onTc (τ := τ) (main (F := F))) ⟨m, fun _ => 0, ρ⟩ (fun r => (∀ c : Dev nD,
      Ends m forget c (r.2.mem ((c.tc : Thread nD τ).loc main_v3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.RDat.θ_run_regions_kit_dev_sems (pcfgs (F := F)) adm (rdats (U := UU) (V1 m) (V1 m) forget) () cellOf_inj embL defs₀ Variants.none L lv m ρ main
    (fun _ => [.host (seg0 m Variants.none L lv E), .host (call0 m forget hR0), .host (call1 m forget hR1)])
    (fun c Q => by
      rewrite [main_chain c, Pipeline.RDat.Seg.run_eq_chain,
        show ([.host (seg0 m Variants.none L lv E), .host (call0 m forget hR0), .host (call1 m forget hR1)] :
            List (Pipeline.RDat.Seg (pcfgs (F := F)) adm (rdats (U := UU) (V1 m) (V1 m) forget) () defs₀ Variants.none L lv)).map Pipeline.RDat.Seg.prog = [
          StableHlo.seq hostOps0,
          Prog.lift (.customCall (Pipeline.entry 0) ()),
          Prog.lift (.customCall (Pipeline.entry 1) ()) ] from rfl]
      dsimp (config := { failIfUnchanged := false }) only
      exact .rfl)
    (fun c => by simp only [Pipeline.RDat.Seg.pipes_host, Pipeline.RDat.Seg.pipes_nil]; exact List.nodup_nil) 0 (fun _ _ => rfl)
    (fun c => iprop(ghost 0 c ∗ ghost 1 c)) (e₀, e₀) deal
    (T₀ := fun c => iprop(StableHlo.held (c : Thread nD τ) (Pipeline.ucRefs τ sig) (V0 m c) ∗ E 0 c))
    (Tₙ := fun c => iprop(∃ o0 o1 o2 o3, ⌜Out0 (U := UU) (V1 m) forget c o0 o1 o2 ∧ Out1 (U := UU) (fun _ => upd0 (V1 m c) o0 o1 o2) forget c o3⌝
      ∗ StableHlo.held (c : Thread nD τ) (Pipeline.ucRefs τ sig) (upd1 (upd0 (V1 m c) o0 o1 o2) o3)))
    (hch := fun c => ⟨.rfl, .rfl, .rfl, ?_⟩)
    (hinit := Pipeline.initEach L lv fun c => ?_)
    (QY := fun c s => Ends m forget c (s.mem ((c.tc : Thread nD τ).loc main_v3)) ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · show fin m forget c ⊢ _
    unfold fin st
    iintro ⟨%o0, %o1, %o2, %o3, %h, Hh, HO⟩
    isplitl [Hh]
    · iexists o0; iexists o1; iexists o2; iexists o3
      isplitr; · ipureintro; exact h
      iexact Hh
    iexact HO
  · rw [← Pipeline.unscopedBufs_held (Ix := Unit) (Name := ℕ) (U := UU) (Lvl := ℕ) c (V0 m c)]
    unfold E
    iintro ⟨⟨Hub, -, HO, -, -, HG⟩, -⟩
    imodintro
    isplitl [Hub]; · iexact Hub
    isplitl [HO]; · iexists _; iexact HO
    iexact HG
  · iintro ⟨⟨%o0, %o1, %o2, %o3, %ho, Hh⟩, HSI⟩
    unfold StableHlo.held
    ihave Hr := (pointsTo_read_all (Pipeline.ucRefs τ sig) (fun b => ((c : Thread nD τ).1, b)) (upd1 (upd0 (V1 m c) o0 o1 o2) o3) s') $$ [Hh HSI]
    · isplitl [Hh] <;> iassumption
    icases Hr with ⟨%h, HSI⟩
    imodintro
    isplitr
    · ipureintro
      have hr : ∀ r : Ref sig .tc, Proc.devRef (τ := τ) .tc r ∈ Pipeline.ucRefs τ sig →
          s'.mem.mem ((c.tc : Thread nD τ).loc r) = upd1 (upd0 (V1 m c) o0 o1 o2) o3 r := fun r hr => h (Proc.devRef .tc r) hr
      refine ⟨⟨o0, o1, o2, ho.1, ?_⟩,
        (hr main_arg0 (Finset.mem_filter.mpr ⟨StableHlo.devRef_mem_tcRefs main_arg0, by decide⟩)).trans (kept m c o0 o1 o2 o3 main_arg0 (by decide) (by decide) (by decide)),
        (hr main_arg1 (Finset.mem_filter.mpr ⟨StableHlo.devRef_mem_tcRefs main_arg1, by decide⟩)).trans (kept m c o0 o1 o2 o3 main_arg1 (by decide) (by decide) (by decide)),
        (hr main_arg2 (Finset.mem_filter.mpr ⟨StableHlo.devRef_mem_tcRefs main_arg2, by decide⟩)).trans (kept m c o0 o1 o2 o3 main_arg2 (by decide) (by decide) (by decide)),
        (hr main_arg3 (Finset.mem_filter.mpr ⟨StableHlo.devRef_mem_tcRefs main_arg3, by decide⟩)).trans (kept m c o0 o1 o2 o3 main_arg3 (by decide) (by decide) (by decide))⟩
      have h3 : s'.mem.mem ((c.tc : Thread nD τ).loc main_v3) = o3 :=
        (hr main_v3 (Finset.mem_filter.mpr ⟨StableHlo.devRef_mem_tcRefs main_v3, by decide⟩)).trans (upd1_3 _ o3)
      rw [h3]; exact ho.2
    · iexact HSI

end Cert.KernelIdeal.Body

end
-- ==== Proof.VKer.lean ====
/-
  What the kernel leaves in its result, as a function of its four arguments.
-/
module

public import proofs.«01_k».proof.Proof.VArr
public import proofs.«01_k».proof.Proof.IRun

@[expose] public section

set_option maxRecDepth 16384

noncomputable section

namespace Cert.KernelIdeal.Num

open Cert.KernelIdeal Cert.KernelIdeal.Gen Cert.KernelIdeal.Body
open Idealize.ShloMosaic Idealize.ShloMosaic.TcCoe
open Idealize.SL Idealize.SL.RA Idealize.SL.Sem

/-- The feed-forward block `relu (x Wᵀ + b)`. -/
def feed (x : S10000x128.Idx → EReal) (W : S128x128.Idx → EReal) (b : S128.Idx → EReal) : S10000x128.Idx → EReal :=
  fun i => max ((∑ q : Fin 128, x (ix2 (i 0) q) * W (ix2 (i 1) q)) + b (ix1 (i 1))) 0

/-- The whole computation. -/
def result (x : S10000x128.Idx → EReal) (g : S10000x10000.Idx → EReal) (W : S128x128.Idx → EReal) (b : S128.Idx → EReal) :
    S10000x128.Idx → EReal :=
  qprod (quants g) (prod g (feed x W b)) (scales g)

theorem transpose_at (W : S128x128.Idx → EReal) (k l : Fin 128) :
    transpose S128x128 [1, 0] W transposes_S128x128_S128x128_1_0 (ix2 k l) = W (ix2 l k) := by
  pointwise []

theorem reshape_at (b : S128.Idx → EReal) (l : Fin 128) :
    shapeCast S1x128 b shapeCasts_S128_S1x128 (ix2 0 l) = b (ix1 l) := by
  pointwise []

/-- The kernel's feed-forward block is the stated one. -/
theorem pay1_eq (x : S10000x128.Idx → EReal) (W : S128x128.Idx → EReal) (b : S128.Idx → EReal) :
    k0_pay1 (F := Ideal) x (transpose S128x128 [1, 0] W transposes_S128x128_S128x128_1_0) (shapeCast S1x128 b shapeCasts_S128_S1x128)
      = feed x W b := by
  funext i
  obtain ⟨r, l, rfl⟩ : ∃ (r : Fin 10000) (l : Fin 128), i = ix2 r l := ⟨_, _, eq_ix2 i⟩
  rw [pay1_at, reshape_at]
  unfold feed
  refine congrArg (fun s => max (s + b (ix1 l)) 0) (Finset.sum_congr rfl fun q _ => ?_)
  rw [transpose_at]
  rfl

variable (m : (ℓ : Loc nD τ sig) → Buf (Elt Ideal) ℓ) (c : Dev nD)

theorem V1_arg0 : V1 m c main_arg0 = m ((c.tc : Thread nD τ).loc main_arg0) := by simp only [V1, hostOps0]; after_results
theorem V1_arg1 : V1 m c main_arg1 = m ((c.tc : Thread nD τ).loc main_arg1) := by simp only [V1, hostOps0]; after_results
theorem V1_v0 : V1 m c main_v0 = transpose S128x128 [1, 0] (m ((c.tc : Thread nD τ).loc main_arg2)) transposes_S128x128_S128x128_1_0 := by
  simp only [V1, hostOps0]; after_results
theorem V1_v1 : V1 m c main_v1 = shapeCast S1x128 (m ((c.tc : Thread nD τ).loc main_arg3)) shapeCasts_S128_S1x128 := by
  simp only [V1, hostOps0]; after_results; rfl

/-- The kernel's result. -/
theorem ends_eq (v : Buf (Elt Ideal) ((c.tc : Thread nD τ).loc main_v3)) (h : Ends (F := Ideal) m false c v) :
    v = result (m ((c.tc : Thread nD τ).loc main_arg0)) (m ((c.tc : Thread nD τ).loc main_arg1))
      (m ((c.tc : Thread nD τ).loc main_arg2)) (m ((c.tc : Thread nD τ).loc main_arg3)) := by
  obtain ⟨o0, o1, o2, h0, h1⟩ := h
  obtain ⟨e0, e1, e2⟩ := h0 rfl
  rw [arr0_4, V1_arg0, V1_arg1, V1_v0, V1_v1, pay1_eq] at e0
  rw [arr0_5, V1_arg1] at e1
  rw [arr0_6, V1_arg1] at e2
  rw [h1 rfl, arr1_3, upd0_0, upd0_1, upd0_2, e0, e1, e2]
  rfl

end Cert.KernelIdeal.Num

end
-- ==== Proof.VNum.lean ====
/-
  The quantiser over the extended reals: an eight-bit word holds a quantised entry exactly, and multiplying by 127 over the
  row's largest magnitude is dividing by the row's scale.
-/
module

public import proofs.«01_k».proof.Proof.VPay

@[expose] public section

noncomputable section

namespace Cert.KernelIdeal.Num

open Idealize.ShloMosaic

theorem c127_eq : c127 = ((127 : ℝ) : EReal) := by
  unfold c127
  simp [Ideal.ofBits, Ideal.ieee, -EReal.coe_mul]
  norm_num

theorem eps_pos : (0 : EReal) < Ideal.ofBits .f32 0x0DA24260#32 := by
  simp [Ideal.ofBits, Ideal.ieee, -EReal.coe_mul]

/-- The largest magnitude of a row is positive, -/
theorem rowMax_pos (row : Fin 10000 → EReal) : 0 < rowMax row := lt_max_of_lt_right eps_pos

/-- and no entry exceeds it. -/
theorem le_rowMax (row : Fin 10000 → EReal) (k : Fin 10000) : max (row k) (-row k) ≤ rowMax row :=
  le_trans ((Finset.le_fold_max _).mpr (.inr ⟨k, Finset.mem_univ k, le_refl _⟩)) (le_max_left _ _)

/-- Rounding stays between two integers that bound the number. -/
theorem round_mem (y : ℝ) (lo : -127 ≤ y) (hi : y ≤ 127) : -127 ≤ Ideal.roundHalfEven y ∧ Ideal.roundHalfEven y ≤ 127 := by
  have h1 : (-127 : ℤ) ≤ ⌊y⌋ := Int.le_floor.mpr (by exact_mod_cast lo)
  have h2 : ⌊y⌋ ≤ 127 := by
    have h : (⌊y⌋ : ℝ) ≤ 127 := (Int.floor_le y).trans hi
    exact_mod_cast h
  have h3 : ⌊y⌋ = 127 → y - (⌊y⌋ : ℝ) < 1 / 2 := fun h => by rw [h]; push_cast; linarith
  unfold Ideal.roundHalfEven
  dsimp only
  split_ifs with a b c
  · exact ⟨h1, h2⟩
  · exact ⟨by omega, by rcases eq_or_ne ⌊y⌋ 127 with h | h; · exact absurd (h3 h) a
                        omega⟩
  · exact ⟨h1, h2⟩
  · exact ⟨by omega, by rcases eq_or_ne ⌊y⌋ 127 with h | h; · exact absurd (h3 h) a
                        omega⟩

/-- An integer within ±127 is read back from its eight-bit word. -/
theorem word_toInt (n : ℤ) (lo : -127 ≤ n) (hi : n ≤ 127) : (Ideal.fptosi 8 (((n : ℝ)) : EReal)).toInt = n := by
  have h : (if (0 : ℝ) ≤ (n : ℝ) then ⌊(n : ℝ)⌋ else ⌈(n : ℝ)⌉) = n := by
    rw [Int.floor_intCast, Int.ceil_intCast, ite_self]
  unfold Ideal.fptosi
  rw [Ideal.toIntClamped_coe, h, BitVec.toInt_ofInt]
  norm_num
  rw [min_eq_right hi, max_eq_right (by omega)]
  rw [Int.bmod_def]
  omega

/-- The quantised entry, read back, is the rounded quotient of the entry by the scale. -/
theorem quant_eq (m x : EReal) (hm : 0 < m) (hx : max x (-x) ≤ m) :
    (((quant m x).toInt : ℝ) : EReal) = Ideal.liftRound Ideal.roundHalfEven (Ideal.div x (Ideal.div m c127)) := by
  unfold quant
  rw [c127_eq]
  induction m using EReal.rec with
  | bot => exact absurd hm (by simp)
  | top =>
    have h1 : Ideal.div ((127 : ℝ) : EReal) ⊤ = 0 := by simp [Ideal.div]
    have h2 : Ideal.div ⊤ ((127 : ℝ) : EReal) = ⊤ := by
      rw [Ideal.div_coe (by norm_num), EReal.top_mul_coe_of_pos (by norm_num)]
    have h3 : Ideal.div x ⊤ = 0 := by simp [Ideal.div]
    have h0 : Ideal.liftRound Ideal.roundHalfEven 0 = (((0 : ℤ) : ℝ) : EReal) := by
      rw [← EReal.coe_zero, Ideal.liftRound_coe]
      simp [Ideal.roundHalfEven]
    rw [h1, h2, h3, mul_zero, h0, word_toInt 0 (by norm_num) (by norm_num)]
  | coe m =>
    have hm' : 0 < m := by exact_mod_cast hm
    induction x using EReal.rec with
    | bot => simp at hx
    | top => simp at hx
    | coe x =>
      have hx1 : x ≤ m := by exact_mod_cast (le_max_left _ _).trans hx
      have hx2 : -x ≤ m := by exact_mod_cast (le_max_right _ _).trans hx
      have e1 : Ideal.div ((127 : ℝ) : EReal) (m : EReal) = ((127 / m : ℝ) : EReal) := by
        rw [Ideal.div_coe hm'.ne', ← EReal.coe_mul, mul_one_div]
      have e2 : Ideal.div (m : EReal) ((127 : ℝ) : EReal) = ((m / 127 : ℝ) : EReal) := by
        rw [Ideal.div_coe (by norm_num), ← EReal.coe_mul, mul_one_div]
      have e3 : Ideal.div (x : EReal) ((m / 127 : ℝ) : EReal) = ((x * (127 / m) : ℝ) : EReal) := by
        rw [Ideal.div_coe (by positivity), ← EReal.coe_mul]
        congr 2
        field_simp
      rw [e1, e2, e3, ← EReal.coe_mul, Ideal.liftRound_coe]
      have lo : -127 ≤ x * (127 / m) := by
        rw [mul_div_assoc', le_div_iff₀ hm']; linarith
      have hi : x * (127 / m) ≤ 127 := by
        rw [mul_div_assoc', div_le_iff₀ hm']; linarith
      obtain ⟨a, b⟩ := round_mem _ lo hi
      rw [word_toInt _ a b]

end Cert.KernelIdeal.Num

end
-- ==== Proof.VRef.lean ====
/-
  The reference's value, read at one element.
-/
module

public import proofs.«01_k».proof.Proof.VKer
public import proofs.«01_k».proof.Proof.VNum
public import proofs.«01_k».proof.Proof.Gen.ReferenceIdeal.Run

@[expose] public section

set_option maxRecDepth 16384

noncomputable section

namespace Cert.ReferenceIdeal.Num

open Cert.ReferenceIdeal Cert.ReferenceIdeal.Gen
open Idealize.ShloMosaic
open Cert.KernelIdeal.Num (rowMax c127 quant scale prod quants scales qprod feed result)

/-- The two products, each row against each column. -/
theorem dot_at (A : S10000x10000.Idx → EReal) (B : S10000x128.Idx → EReal) (r : Fin 10000) (l : Fin 128) :
    Host.dotGeneral (F := Ideal) (φ₁ := .f32) (φ₂ := .f32)
        dot_S10000x10000_S10000x128_S10000x128_1_0_0_1_n_n none A B (ix2 r l)
      = ∑ k : Fin 10000, A (ix2 r k) * B (ix2 k l) := by
  pointwise []

theorem dotW_at (A : S10000x128.Idx → EReal) (B : S128x128.Idx → EReal) (r : Fin 10000) (l : Fin 128) :
    Host.dotGeneral (F := Ideal) (φ₁ := .f32) (φ₂ := .f32)
        dot_S10000x128_S128x128_S10000x128_1_0_0_1_n_n none A B (ix2 r l)
      = ∑ k : Fin 128, A (ix2 r k) * B (ix2 k l) := by
  pointwise []

theorem transpose_at (W : S128x128.Idx → EReal) (k l : Fin 128) :
    transpose S128x128 [1, 0] W transposes_S128x128_S128x128_1_0 (ix2 k l) = W (ix2 l k) := by
  pointwise []

theorem bias_at (b : S128.Idx → EReal) (r : Fin 10000) (l : Fin 128) :
    broadcastInDim S10000x128 ![0, 1] bcast_S1x128_S10000x128_0_1 (broadcastInDim S1x128 ![1] bcast_S128_S1x128_1 b) (ix2 r l)
      = b (ix1 l) := by
  pointwise []

theorem zero_at (i : S10000x128.Idx) :
    broadcastInDim S10000x128 ![] bcast_S_S10000x128 (constant (F := Ideal) S_ .f32 0x00000000#32) i = (0 : EReal) := by
  pointwise []

theorem col_at (A : S10000.Idx → EReal) (r : Fin 10000) (z : Fin 1) :
    broadcastInDim S10000x1 ![0] bcast_S10000_S10000x1_0 A (ix2 r z) = A (ix1 r) := by
  pointwise []

theorem wide_at (A : S10000x1.Idx → EReal) (r k : Fin 10000) :
    broadcastInDim S10000x10000 ![0, 1] bcast_S10000x1_S10000x10000_0_1 A (ix2 r k) = A (ix2 r 0) := by
  pointwise []

theorem narrow_at (A : S10000x1.Idx → EReal) (r : Fin 10000) (l : Fin 128) :
    broadcastInDim S10000x128 ![0, 1] bcast_S10000x1_S10000x128_0_1 A (ix2 r l) = A (ix2 r 0) := by
  pointwise []

theorem splat_at (w : BitVec 32) (i : S10000x1.Idx) :
    broadcastInDim S10000x1 ![] bcast_S_S10000x1 (constant (F := Ideal) S_ .f32 w) i = Ideal.ofBits .f32 w := rfl

theorem max_at (A : S10000x10000.Idx → EReal) (r : Fin 10000) :
    Host.reduce (FloatOps.maximumf (F := Ideal) (φ := .f32)) A (constant (F := Ideal) S_ .f32 0xFF800000#32)
        reducesTo_S10000x10000_S10000_d1 h_S_ (ix1 r)
      = Finset.univ.fold max (Ideal.ofBits .f32 0xFF800000#32) fun k => A (ix2 r k) := by
  pointwise []

/-- The reference's feed-forward block. -/
def hid (x : S10000x128.Idx → EReal) (W : S128x128.Idx → EReal) (b : S128.Idx → EReal) : S10000x128.Idx → EReal :=
  maximumf (F := Ideal) (φ := .f32) (addf (F := Ideal) (φ := .f32) (Host.dotGeneral (F := Ideal) (φ₁ := .f32) (φ₂ := .f32) dot_S10000x128_S128x128_S10000x128_1_0_0_1_n_n none x
      (transpose S128x128 [1, 0] W transposes_S128x128_S128x128_1_0))
    (broadcastInDim S10000x128 ![0, 1] bcast_S1x128_S10000x128_0_1 (broadcastInDim S1x128 ![1] bcast_S128_S1x128_1 b)))
    (broadcastInDim S10000x128 ![] bcast_S_S10000x128 (constant (F := Ideal) S_ .f32 0x00000000#32))

/-- The reference's scales, one per row of the graph matrix. -/
def scl (g : S10000x10000.Idx → EReal) : S10000x1.Idx → EReal :=
  Host.divf (F := Ideal) (φ := .f32) (maximumf (F := Ideal) (φ := .f32) (broadcastInDim S10000x1 ![0] bcast_S10000_S10000x1_0
      (Host.reduce (FloatOps.maximumf (F := Ideal) (φ := .f32)) (Host.absf (F := Ideal) (φ := .f32) g) (constant (F := Ideal) S_ .f32 0xFF800000#32)
        reducesTo_S10000x10000_S10000_d1 h_S_))
      (broadcastInDim S10000x1 ![] bcast_S_S10000x1 (constant (F := Ideal) S_ .f32 0x0DA24260#32)))
    (broadcastInDim S10000x1 ![] bcast_S_S10000x1 (constant (F := Ideal) S_ .f32 0x42FE0000#32))

/-- The reference's rounded graph matrix. -/
def rnd (g : S10000x10000.Idx → EReal) : S10000x10000.Idx → EReal :=
  Host.roundeven (F := Ideal) (φ := .f32) (Host.divf (F := Ideal) (φ := .f32) g (broadcastInDim S10000x10000 ![0, 1] bcast_S10000x1_S10000x10000_0_1 (scl g)))

/-- The reference's result. -/
def out (x : S10000x128.Idx → EReal) (g : S10000x10000.Idx → EReal) (W : S128x128.Idx → EReal) (b : S128.Idx → EReal) :
    S10000x128.Idx → EReal :=
  mulf (F := Ideal) (φ := .f32) (Host.dotGeneral (F := Ideal) (φ₁ := .f32) (φ₂ := .f32) dot_S10000x10000_S10000x128_S10000x128_1_0_0_1_n_n none (rnd g)
      (Host.dotGeneral (F := Ideal) (φ₁ := .f32) (φ₂ := .f32) dot_S10000x10000_S10000x128_S10000x128_1_0_0_1_n_n none g (hid x W b)))
    (broadcastInDim S10000x128 ![0, 1] bcast_S10000x1_S10000x128_0_1 (scl g))

theorem hid_eq (x : S10000x128.Idx → EReal) (W : S128x128.Idx → EReal) (b : S128.Idx → EReal) : hid x W b = feed x W b := by
  funext i
  obtain ⟨r, l, rfl⟩ : ∃ (r : Fin 10000) (l : Fin 128), i = ix2 r l := ⟨_, _, eq_ix2 i⟩
  unfold hid feed
  refine (ValueIdx.maximumf_apply _ _ _).trans (congrArg₂ max ?_ (zero_at _))
  refine (ValueIdx.addf_apply _ _ _).trans (congrArg₂ (· + ·) ?_ (bias_at b r l))
  refine (dotW_at _ _ r l).trans (Finset.sum_congr rfl fun q _ => ?_)
  rw [transpose_at]
  rfl

theorem hdivf_at {s : Shape} (A B : s.Idx → EReal) (i : s.Idx) :
    Host.divf (F := Ideal) (φ := .f32) A B i = Ideal.div (A i) (B i) := rfl

theorem hround_at {s : Shape} (A : s.Idx → EReal) (i : s.Idx) :
    Host.roundeven (F := Ideal) (φ := .f32) A i = Ideal.liftRound Ideal.roundHalfEven (A i) := rfl

theorem habs_at {s : Shape} (A : s.Idx → EReal) (i : s.Idx) :
    Host.absf (F := Ideal) (φ := .f32) A i = max (A i) (-A i) := rfl

theorem scl_at (g : S10000x10000.Idx → EReal) (r : Fin 10000) (z : Fin 1) : scl g (ix2 r z) = scale fun k => g (ix2 r k) := by
  unfold scl scale
  refine (hdivf_at _ _ _).trans (congrArg₂ Ideal.div ?_ (splat_at _ _))
  unfold rowMax
  refine (ValueIdx.maximumf_apply _ _ _).trans (congrArg₂ max ?_ (splat_at _ _))
  rw [col_at, max_at, Cert.KernelIdeal.Num.negInf]
  exact Finset.fold_congr fun k _ => habs_at g _

theorem rnd_at (g : S10000x10000.Idx → EReal) (r k : Fin 10000) :
    rnd g (ix2 r k) = (((quants g (ix2 r k)).toInt : ℝ) : EReal) := by
  unfold rnd quants
  refine (hround_at _ _).trans ?_
  refine Eq.trans ?_ (Cert.KernelIdeal.Num.quant_eq _ _ (Cert.KernelIdeal.Num.rowMax_pos _)
    (Cert.KernelIdeal.Num.le_rowMax (fun k => g (ix2 r k)) k)).symm
  refine congrArg _ ((hdivf_at _ _ _).trans ?_)
  rw [wide_at, scl_at]
  rfl

/-- The reference's result is the kernel's. -/
theorem out_eq (x : S10000x128.Idx → EReal) (g : S10000x10000.Idx → EReal) (W : S128x128.Idx → EReal) (b : S128.Idx → EReal) :
    out x g W b = result x g W b := by
  have first : Host.dotGeneral (F := Ideal) (φ₁ := .f32) (φ₂ := .f32) dot_S10000x10000_S10000x128_S10000x128_1_0_0_1_n_n none g (hid x W b)
      = prod g (feed x W b) := by
    funext i
    obtain ⟨r, l, rfl⟩ : ∃ (r : Fin 10000) (l : Fin 128), i = ix2 r l := ⟨_, _, eq_ix2 i⟩
    rw [hid_eq]
    exact dot_at _ _ r l
  funext i
  obtain ⟨r, l, rfl⟩ : ∃ (r : Fin 10000) (l : Fin 128), i = ix2 r l := ⟨_, _, eq_ix2 i⟩
  unfold out result qprod
  rw [first]
  refine (ValueIdx.mulf_apply _ _ _).trans (congrArg₂ (· * ·) ?_ ((narrow_at _ r l).trans (scl_at g r 0)))
  exact (dot_at _ _ r l).trans (Finset.sum_congr rfl fun k _ => congrArg₂ (· * ·) (rnd_at g r k) rfl)

end Cert.ReferenceIdeal.Num

end
-- ==== Proof.lean ====
/-
  The certificate's claim: the kernel runs to its end leaving its arguments as they were and every semaphore at zero, at
  machine floats and over the extended reals; so does the reference; and over the extended reals, from equal arguments,
  the two leave equal results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.KRun
public import proofs.«01_k».proof.Proof.VRows
public import proofs.«01_k».proof.Proof.VRef
public import Idealize.ShloMosaic.Adequacy
public import Idealize.ShloMosaic.Lib.Quiescent
public import Idealize.ShloMosaic.Init

@[expose] public section

noncomputable section

namespace Cert.Proof

open Idealize.ShloMosaic Idealize.ShloMosaic.TcCoe Idealize.SL.Sem

/-- The kernel at machine floats. -/
theorem frameKernel : Cert.quiescent_Kernel (hKernel := Cert.Kernel.Gen.facts) := fun m ρ _ =>
  (θ_run Cert.Kernel.defs _ _).mono (fun _ h => ⟨fun c => (h.1 c).2, h.2⟩)
    (Cert.Kernel.Body.run_main (F := Bits) m true (fun h => nomatch h) (fun h => nomatch h) ρ)

/-- The kernel over the extended reals. -/
theorem frameIdeal : Cert.quiescent_KernelIdeal (hKernelIdeal := Cert.KernelIdeal.Gen.facts) := fun m ρ _ =>
  (θ_run Cert.KernelIdeal.defs _ _).mono (fun _ h => ⟨fun c => (h.1 c).2, h.2⟩)
    (Cert.KernelIdeal.Body.run_main (F := Ideal) m false (fun _ => Cert.KernelIdeal.Num.rows0) (fun _ => Cert.KernelIdeal.Num.rows1) ρ)

/-- The reference over the extended reals; it has no semaphore. -/
theorem frameReference : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The kernel and the reference leave the same result. -/
theorem value : Cert.algebraic_KernelIdeal_ReferenceIdeal (hKernelIdeal := Cert.KernelIdeal.Gen.facts)
    (hReferenceIdeal := Cert.ReferenceIdeal.Gen.facts) := by
  intro m ρ m' ρ' _ hargs
  refine ⟨fun c => Cert.KernelIdeal.Num.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun _ h c => ⟨Cert.KernelIdeal.Num.ends_eq m c _ (h.1 c).1, (h.1 c).2⟩)
      (Cert.KernelIdeal.Body.run_main (F := Ideal) m false (fun _ => Cert.KernelIdeal.Num.rows0) (fun _ => Cert.KernelIdeal.Num.rows1) ρ)
  · refine (θ_run Cert.ReferenceIdeal.defs _ _).mono (fun _ h c => ⟨(h c).1.trans ?_, (h c).2⟩)
      (Cert.ReferenceIdeal.Value.run (F := Ideal) m' ρ')
    obtain ⟨e0, e1, e2, e3⟩ := hargs c
    rw [e0, e1, e2, e3]
    exact Cert.ReferenceIdeal.Num.out_eq _ _ _ _

theorem claim : Cert.Claim := ⟨Cert.Kernel.Gen.facts, Cert.KernelIdeal.Gen.facts, Cert.ReferenceIdeal.Gen.facts,
  frameKernel, frameIdeal, frameReference, trivial, value⟩

end Cert.Proof

end
